-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x26 : Shape := ⟨2, ![16384, 26]⟩
abbrev S16384x13 : Shape := ⟨2, ![16384, 13]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x13 .f32) (main_arg2 : FVec F S26x100000x16 .f32) (main_arg3 : FVec F S429x256 .f32) (main_arg4 : FVec F S256 .f32) (main_arg5 : FVec F S256x128 .f32) (main_arg6 : FVec F S128 .f32) (main_arg7 : FVec F S128x1 .f32) (main_arg8 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S16384x13 : Shape := ⟨2, ![16384, 13]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S_ : Shape := ⟨0, ![]⟩
abbrev S1x26 : Shape := ⟨2, ![1, 26]⟩
abbrev S425984 : Shape := ⟨1, ![425984]⟩
abbrev S2600000x16 : Shape := ⟨2, ![2600000, 16]⟩
abbrev S425984x16 : Shape := ⟨2, ![425984, 16]⟩
abbrev S3328 : Shape := ⟨1, ![3328]⟩
abbrev S3328x16 : Shape := ⟨2, ![3328, 16]⟩
abbrev S128x16 : Shape := ⟨2, ![128, 16]⟩
abbrev S16384x416 : Shape := ⟨2, ![16384, 416]⟩
abbrev S416x256 : Shape := ⟨2, ![416, 256]⟩
abbrev S13x256 : Shape := ⟨2, ![13, 256]⟩
abbrev S1x256 : Shape := ⟨2, ![1, 256]⟩
abbrev S1x128 : Shape := ⟨2, ![1, 128]⟩
abbrev S1x1 : Shape := ⟨2, ![1, 1]⟩
abbrev S16384x1 : Shape := ⟨2, ![16384, 1]⟩
abbrev S1024x416 : Shape := ⟨2, ![1024, 416]⟩
abbrev S1024x13 : Shape := ⟨2, ![1024, 13]⟩
abbrev S1024x1 : Shape := ⟨2, ![1024, 1]⟩
abbrev S1024x256 : Shape := ⟨2, ![1024, 256]⟩
abbrev S1024x128 : Shape := ⟨2, ![1024, 128]⟩

abbrev nBuf : Table → Nat
  | .hbm => 26
  | .local .tc .vmem => 13
  | .local .scVector .vmem => 2
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S26, .i32⟩
  | .hbm, ⟨10, _⟩ => ⟨S_, .i32⟩
  | .hbm, ⟨11, _⟩ => ⟨S26, .i32⟩
  | .hbm, ⟨12, _⟩ => ⟨S26, .i32⟩
  | .hbm, ⟨13, _⟩ => ⟨S1x26, .i32⟩
  | .hbm, ⟨14, _⟩ => ⟨S16384x26, .i32⟩
  | .hbm, ⟨15, _⟩ => ⟨S16384x26, .i32⟩
  | .hbm, ⟨16, _⟩ => ⟨S425984, .i32⟩
  | .hbm, ⟨17, _⟩ => ⟨S2600000x16, .f32⟩
  | .hbm, ⟨18, _⟩ => ⟨S425984x16, .f32⟩
  | .hbm, ⟨19, _⟩ => ⟨S16384x416, .f32⟩
  | .hbm, ⟨20, _⟩ => ⟨S416x256, .f32⟩
  | .hbm, ⟨21, _⟩ => ⟨S13x256, .f32⟩
  | .hbm, ⟨22, _⟩ => ⟨S1x256, .f32⟩
  | .hbm, ⟨23, _⟩ => ⟨S1x128, .f32⟩
  | .hbm, ⟨24, _⟩ => ⟨S1x1, .f32⟩
  | .hbm, ⟨25, _⟩ => ⟨S16384x1, .f32⟩
  | .local .tc .vmem, ⟨0, _⟩ => ⟨S1024x416, .f32⟩
  | .local .tc .vmem, ⟨1, _⟩ => ⟨S1024x416, .f32⟩
  | .local .tc .vmem, ⟨2, _⟩ => ⟨S1024x13, .f32⟩
  | .local .tc .vmem, ⟨3, _⟩ => ⟨S1024x13, .f32⟩
  | .local .tc .vmem, ⟨4, _⟩ => ⟨S416x256, .f32⟩
  | .local .tc .vmem, ⟨5, _⟩ => ⟨S13x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S128x1, .f32⟩
  | .local .tc .vmem, ⟨10, _⟩ => ⟨S1x1, .f32⟩
  | .local .tc .vmem, ⟨11, _⟩ => ⟨S1024x1, .f32⟩
  | .local .tc .vmem, ⟨12, _⟩ => ⟨S1024x1, .f32⟩
  | .local .scVector .vmem, ⟨0, _⟩ => ⟨S3328, .i32⟩
  | .local .scVector .vmem, ⟨1, _⟩ => ⟨S3328x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v7_scv : Ref sig .scVector := ⟨.hbm, 17, rfl⟩
abbrev main_v6_scv : Ref sig .scVector := ⟨.hbm, 16, rfl⟩
abbrev main_v8_scv : Ref sig .scVector := ⟨.hbm, 18, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem9_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_0 : BitVec 32 := 0#32
  let c1_i32 : BitVec 32 := 1#32
  let arg8 : BitVec 32 := Scf.iv c0_i32_0 c1_i32 k0_t1
  let c3328_i32 : BitVec 32 := 3328#32
  let v5 : BitVec 32 := Scalar.muli arg8 c3328_i32
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_0 : BitVec 32 := 0#32
  let c1_i32 : BitVec 32 := 1#32
  let arg8 : BitVec 32 := Scf.iv c0_i32_0 c1_i32 k0_t1
  let c3328_i32 : BitVec 32 := 3328#32
  let v5 : BitVec 32 := Scalar.muli arg8 c3328_i32
  let v6 : BitVec 32 := Scalar.addi v2 v5
  let c0_i32_238_r1 : BitVec 32 := 0#32
  ![v6.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S416x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S13x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S16384x13 : Shape := ⟨2, ![16384, 13]⟩
abbrev S26x100000x16 : Shape := ⟨3, ![26, 100000, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x1 : Shape := ⟨2, ![16384, 1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S16384x26, .i32⟩
  | .hbm, ⟨11, _⟩ => ⟨S16384x26, .i1⟩
  | .hbm, ⟨12, _⟩ => ⟨S_, .i32⟩
  | .hbm, ⟨13, _⟩ => ⟨S16384x26, .i32⟩
  | .hbm, ⟨14, _⟩ => ⟨S16384x26, .i32⟩
  | .hbm, ⟨15, _⟩ => ⟨S16384x26, .i32⟩
  | .hbm, ⟨16, _⟩ => ⟨S26x16384, .i32⟩
  | .hbm, ⟨17, _⟩ => ⟨S26x16384x1, .i32⟩
  | .hbm, ⟨18, _⟩ => ⟨S1, .i32⟩
  | .hbm, ⟨19, _⟩ => ⟨S_, .i32⟩
  | .hbm, ⟨20, _⟩ => ⟨S26x16384x1, .i32⟩
  | .hbm, ⟨21, _⟩ => ⟨S26x16384x1, .i1⟩
  | .hbm, ⟨22, _⟩ => ⟨S1x1x1, .i32⟩
  | .hbm, ⟨23, _⟩ => ⟨S26x16384x1, .i32⟩
  | .hbm, ⟨24, _⟩ => ⟨S26x16384x1, .i1⟩
  | .hbm, ⟨25, _⟩ => ⟨S26x16384x1, .i1⟩
  | .hbm, ⟨26, _⟩ => ⟨S_, .i1⟩
  | .hbm, ⟨27, _⟩ => ⟨S26x16384, .i1⟩
  | .hbm, ⟨28, _⟩ => ⟨S26x16384x16, .f32⟩
  | .hbm, ⟨29, _⟩ => ⟨S26x16384x16, .i1⟩
  | .hbm, ⟨30, _⟩ => ⟨S_, .f32⟩
  | .hbm, ⟨31, _⟩ => ⟨S26x16384x16, .f32⟩
  | .hbm, ⟨32, _⟩ => ⟨S26x16384x16, .f32⟩
  | .hbm, ⟨33, _⟩ => ⟨S16384x26x16, .f32⟩
  | .hbm, ⟨34, _⟩ => ⟨S16384x416, .f32⟩
  | .hbm, ⟨35, _⟩ => ⟨S16384x429, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x128, .f32⟩
  | .hbm, ⟨44, _⟩ => ⟨S1x128, .f32⟩
  | .hbm, ⟨45, _⟩ => ⟨S16384x128, .f32⟩
  | .hbm, ⟨46, _⟩ => ⟨S16384x128, .f32⟩
  | .hbm, ⟨47, _⟩ => ⟨S_, .f32⟩
  | .hbm, ⟨48, _⟩ => ⟨S16384x128, .f32⟩
  | .hbm, ⟨49, _⟩ => ⟨S16384x128, .f32⟩
  | .hbm, ⟨50, _⟩ => ⟨S16384x1, .f32⟩
  | .hbm, ⟨51, _⟩ => ⟨S1x1, .f32⟩
  | .hbm, ⟨52, _⟩ => ⟨S16384x1, .f32⟩
  | .hbm, ⟨53, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_1 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_c_3 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_cst : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_call1_cst : Ref sig .tc := ⟨.hbm, 40, rfl⟩
abbrev main_call1_v0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call2_cst : Ref sig .tc := ⟨.hbm, 47, rfl⟩
abbrev main_call2_v0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩

abbrev nD : Nat := 1
abbrev τ : Topo := Topo.v7x

variable {F : FTy → Type} [FloatOps F]
-- ==== Proof.Vocab.lean ====
/-
  The precondition read: every word of `x_embed`, non-negative and below 100000 as a signed word, is its own value below 100000.
-/
module

public import proofs.«01_k».proof.Proof.Gen.Pre_in_vocab
public import Idealize.ShloMosaic.Lib.ReduceAll

@[expose] public section

noncomputable section

namespace Cert.Proof.Vocab

open Idealize.ShloMosaic
open Cert.Pre_in_vocab Cert.Pre_in_vocab.Gen

theorem andi_bools (p q : Bool) : IntOp.andi (BitVec.ofBool p) (BitVec.ofBool q) = BitVec.ofBool (p && q) := by cases p <;> cases q <;> decide
theorem bool_one (p : Bool) : (BitVec.ofBool p = 1#1) ↔ p = true := by cases p <;> decide

theorem word_lt (v : BitVec 32) (e : IntOp.andi (IntOp.cmpi .sge v 0#32) (IntOp.cmpi .slt v 100000#32) = 1#1) : v.toNat < 100000 := by
  simp only [IntOp.cmpi, andi_bools, bool_one, Bool.and_eq_true, BitVec.sle_eq_decide, BitVec.slt_eq_decide,
    decide_eq_true_eq, BitVec.toInt_eq_toNat_cond, BitVec.toNat_ofNat, Nat.reducePow, Nat.reduceMod] at e
  omega

theorem toInt_small {v : BitVec 32} (h : v.toNat < 100000) : v.toInt = v.toNat := by
  rw [BitVec.toInt_eq_toNat_cond, if_pos (by omega)]

variable {F : FTy → Type} [FloatOps F]

theorem index_lt (a0 : IVec S16384x26 32) (a1 : FVec F S16384x13 .f32) (a2 : FVec F S26x100000x16 .f32) (a3 : FVec F S429x256 .f32)
    (a4 : FVec F S256 .f32) (a5 : FVec F S256x128 .f32) (a6 : FVec F S128 .f32) (a7 : FVec F S128x1 .f32) (a8 : FVec F S1 .f32)
    (h : fn (F := F) a0 a1 a2 a3 a4 a5 a6 a7 a8 = fun _ => 1#1) (i : S16384x26.Idx) : (a0 i).toNat < 100000 := by
  haveI : Subsingleton S_.Idx := ⟨fun _ _ => funext fun a => a.elim0⟩
  have e := congrFun h fun a => a.elim0
  exact word_lt _ (Host.reduce_andi_all _ _ _ _ _ e i)

end Cert.Proof.Vocab

end
-- ==== Proof.GatherBatch.lean ====
/-
  Several indirect gathers outstanding on ONE DMA semaphore, as one counted batch of their rows.

  A gather is `o` row transfers, one per entry of its list, each crediting the gather's semaphore. When a second gather
  is issued on that semaphore before the first is waited for, the counter is the sum over the rows of both, and a wait
  of one gather's amount says nothing of which rows have landed. So the rows of ALL the gathers are taken as the
  transfers of one `Transfers.Batch`: issuing a gather moves the batch from `k` rows issued to `k + o`
  (`wp_gatherBatch`); the waits are the batch's own, and the last one hands back every row.
-/
module

public import Idealize.ShloMosaic.Lib.Batch
public import Idealize.ShloMosaic.Lib.SparseCore.Stream

@[expose] public section

noncomputable section

namespace Cert.Proof.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

/-! ## A block of the transfers still to be issued -/

/-- The transfers from the `k`-th on are the next `o` and those from the `k + o`-th on. -/
theorem pending_block {n k o : ℕ} (h : k + o ≤ n) :
    pending (n := n) k = Finset.univ.image (fun j : Fin o => (⟨k + j.val, by omega⟩ : Fin n)) ∪ pending (n := n) (k + o) := by
  ext t
  simp only [pending, Finset.mem_filter, Finset.mem_univ, true_and, Finset.mem_union, Finset.mem_image, Fin.ext_iff]
  constructor
  · intro hk
    by_cases ht : k + o ≤ t.val
    · exact .inr ht
    · exact .inl ⟨⟨t.val - k, by omega⟩, by simp only; omega⟩
  · rintro (⟨j, hj⟩ | hk) <;> omega

section
variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

theorem bigSep_pending_block {n k o : ℕ} (h : k + o ≤ n) (Φ : Fin n → sProp 𝕄) :
    bigSep (pending k) Φ = iprop(bigSep Finset.univ (fun j : Fin o => Φ ⟨k + j.val, by omega⟩) ∗ bigSep (pending (k + o)) Φ) := by
  classical
  have hinj : Function.Injective (fun j : Fin o => (⟨k + j.val, by omega⟩ : Fin n)) := fun a b hab => by
    simp only [Fin.mk.injEq] at hab; exact Fin.ext (by omega)
  have hdisj : Disjoint (Finset.univ.image (fun j : Fin o => (⟨k + j.val, by omega⟩ : Fin n))) (pending (n := n) (k + o)) :=
    Finset.disjoint_left.mpr fun t ht ht' => by
      obtain ⟨j, -, rfl⟩ := Finset.mem_image.mp ht
      have := (Finset.mem_filter.mp ht').2
      simp only at this; omega
  rw [pending_block h, BI.bigSep_union hdisj, show Finset.univ.image (fun j : Fin o => (⟨k + j.val, by omega⟩ : Fin n))
    = Finset.univ.map ⟨_, hinj⟩ from (Finset.map_eq_image ⟨_, hinj⟩ _).symm, BI.bigSep_map]; rfl
end

/-! ## Issuing one gather of the batch -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- `enqueueIndirectGather` as the NEXT `o` rows of a batch of `n` row transfers of `N` units each on its semaphore, of
    which `k` have been issued. `R t` is what row transfer `t` takes — its row of the destination outright, the share of
    its list entry, a share of the source (`hR`) — and `D t` what it delivers: the row written with the source's row its
    entry names, and the two shares back (`hD`). The issuer gives up `R` of the next `o` rows. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {K : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    (ι : Ix) (N : ℕ) {n k u o : ℕ} {R D : Fin n → sProp 𝕄} {qk : Fin o → PosShare TreeShare} (hoe : s.size hg.axis' = o)
    (hN : ∀ j, (dst.slice (s.rowRect hg.axis' j) (s.stride_rowRect hg.axis' j)).view.dmaCredit = N)
    (hin : ∀ x, (offs.view.read (Elt F) fo x).toNat < s₀.size hg.axis)
    (hk : k + o ≤ n) (hu : u ≤ k * N)
    (hR : ∀ j : Fin o, R ⟨k + j.val, by omega⟩
      ⊢ iprop(((dst.view.loc c ↦[(dst.view.slice (s.rowRect hg.axis' (j.cast hoe.symm))).set]{fullShare} fd)
          ∗ (offs.view.loc c ↦[{offs.view.emb (si.rowMajor.symm ((j.cast hoe.symm).cast hn.symm))}]{qo} fo))
          ∗ (src.view.loc c ↦[src.view.set]{qk j} fs)))
    (hD : ∀ j : Fin o,
      iprop(((dst.view.loc c ↦[(dst.view.slice (s.rowRect hg.axis' (j.cast hoe.symm))).set]{fullShare}
            ((dst.view.slice (s.rowRect hg.axis' (j.cast hoe.symm))).write (Elt F) fd
              (fun i => src.view.read (Elt F) fs (hg.rowIdx (rows (offs.view.read (Elt F) fo) hn hin (j.cast hoe.symm)) i)) Finset.univ))
          ∗ (offs.view.loc c ↦[{offs.view.emb (si.rowMajor.symm ((j.cast hoe.symm).cast hn.symm))}]{qo} fo))
          ∗ (src.view.loc c ↦[src.view.set]{qk j} fs)) ⊢ D ⟨k + j.val, by omega⟩) :
    iprop(bigSep (pending k) R ∗ Batch EC c (.dma sem) ι N D k u)
      ⊢ iprop((iprop(bigSep (pending (k + o)) R ∗ Batch EC c (.dma sem) ι N D (k + o) u)
              -∗ wp frame (wpE defs 𝒱 c bd) Set.univ (K ⟨⟩) Q)
          -∗ wp frame (wpE defs 𝒱 c bd) Set.univ (enqueueIndirectGather hp src dst hg offs hn sem hsrc he hsp hr >>= K) Q) := by
  subst hoe
  simp only [Fin.cast_eq_self] at hR hD
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl (fun j _ => hN j), Finset.sum_const, Finset.card_univ, Fintype.card_fin, smul_eq_mul]
  iintro ⟨HR, HB⟩ Hk
  unfold Batch
  icases HB with ⟨%γ, %γ₀, %κ, #Hinv, HI, H0, Hcred⟩
  ihave HR' := (Entails.of_eq (bigSep_pending_block hk R)) $$ HR
  ihave HI' := (Entails.of_eq (bigSep_pending_block hk fun t => count EC (γ t) 0)) $$ HI
  icases HR' with ⟨HR, HRr⟩
  icases HI' with ⟨HI, HIr⟩
  iapply (wp_enqueueIndirectDma 𝒱 c bd Set.univ (qo := qo) (fo := fo) (rd := rd) ι (s.size hg.axis' * N) hA hrd hsum) $$ [HR HI]
  · have hrow : ∀ j : Fin (s.size hg.axis'), iprop(inv κ (batchBody EC (c, SemLoc.dma sem) N D γ γ₀)
          ∗ (R ⟨k + j.val, by omega⟩ ∗ count EC (γ ⟨k + j.val, by omega⟩) 0))
        ⊢ iprop(S.heldEntry qo fo j ∗ (S.heldEntry qo fo j -∗ rowRes c (rd j))) := fun j => by
      iintro ⟨#Hinv, HR, Hγ⟩
      ihave HR' := (hR j) $$ HR
      icases HR' with ⟨⟨Hr, He⟩, Hs⟩
      isplitl [He]; · iexact He
      iintro He
      unfold rowRes
      iexists qk j, fs, iprop((dst.view.loc c ↦[(dst.view.slice (s.rowRect hg.axis' j)).set]{fullShare}
          ((dst.view.slice (s.rowRect hg.axis' j)).write (Elt F) fd (fun i => src.view.read (Elt F) fs (hg.rowIdx (r j) i)) Finset.univ))
        ∗ S.heldEntry qo fo j)
      isplitl [Hs]; · iexact Hs
      isplitl [Hr He]
      · iapply writeUpdate_frame
        isplitl [Hr]
        · iapply (pointsTo_writeUpdate c (v := dst.view.slice (s.rowRect hg.axis' j)) subset_rfl) $$ Hr
        · iexact He
      · have hc := batch_creditUpdate EC (g := (c, SemLoc.dma sem)) (N := N) (D := D) (γ := γ) (γ₀ := γ₀) (ι := κ) ⟨k + j.val, by omega⟩ (hD j)
        rw [show ((rd j).dst.view.amount (.dma sem)) = N from hN j]
        iapply hc
        isplitr; · iexact Hinv
        iexact Hγ
    unfold Stream.res
    ihave H1 := Transfers.bigSep_sep_in _ _ _ $$ [HR HI]; · isplitl [HR] <;> iassumption
    iapply (Transfers.bigSep_mono_pers Finset.univ _ _ _ fun j _ => hrow j)
    isplitr; · iexact Hinv
    iexact H1
  · iintro Hcred'
    iapply Hk
    isplitl [HRr]; · iexact HRr
    iexists γ, γ₀, κ
    isplitr; · iexact Hinv
    isplitl [HIr]; · iexact HIr
    isplitl [H0]; · iexact H0
    rw [show (k + s.size hg.axis') * N - u = (k * N - u) + s.size hg.axis' * N by rw [Nat.add_mul]; omega, ← tallyAt_add]
    icombine Hcred Hcred' as H
    iexact H

end Cert.Proof.GatherBatch
-- ==== Proof.AtIdeal.TileRows.lean ====
/-
  One chunk of a tile's gather: 3328 list entries, each a row of the table, fetched by 26 indirect gathers of 128 rows
  that are all outstanding on one semaphore before any is waited for. The chunk is ONE batch of 3328 row transfers
  (GatherBatch.lean); this module says what each row transfer takes and delivers, and that issuing the gather at rows
  `k … k + 127` moves the batch from `k` to `k + 128`.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.ValueIdx (ix1 ix2 eq_ix1 eq_ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev 𝒱₀ : Variants := Variants.none
abbrev 𝒱 : Variants := 𝒱₀.lift
abbrev v₀ : 𝒱.V := Sum.inl none

/-! ## The resource algebra: the handshakes' rounds library, the pipeline's, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-! ## The arrays as a tile addresses them -/

local notation "tV" => (Memref.whole Cert.KernelIdeal.main_v7_scv : Memref Cert.KernelIdeal.sig Kind.scVector Space.hbm Cert.KernelIdeal.S2600000x16 EltTy.f32)
local notation "iV" => (Memref.whole Cert.KernelIdeal.main_v6_scv : Memref Cert.KernelIdeal.sig Kind.scVector Space.hbm Cert.KernelIdeal.S425984 EltTy.i32)
local notation "oV" => (Memref.whole Cert.KernelIdeal.main_v8_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S3328x16 EltTy.f32)

/-! ## The values -/

/-- The table row a list word names (a word in range names itself). -/
def rowNo (w : BitVec 32) : Fin 2600000 := ⟨w.toNat % 2600000, Nat.mod_lt _ (by decide)⟩

theorem rowNo_val {w : BitVec 32} (h : w.toNat < 2600000) : (rowNo w).val = w.toNat := Nat.mod_eq_of_lt h

/-- The rows of the table `ft` a chunk's list `fl` names. -/
def rowsOf (ft : S2600000x16.Idx → Elt F .f32) (fl : S3328.Idx → BitVec 32) : S3328x16.Idx → Elt F .f32 :=
  fun x => ft (ix2 (rowNo (fl (ix1 (x 0)))) (x 1))

/-- The rows of the table `ft` the whole list `fi` names. -/
def gathered (ft : S2600000x16.Idx → Elt F .f32) (fi : S425984.Idx → BitVec 32) : S425984x16.Idx → Elt F .f32 :=
  fun x => ft (ix2 (rowNo (fi (ix1 (x 0)))) (x 1))

section Chunk

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- Row `t` of the row scratch. -/
def rowSet (t : Fin 3328) : Finset S3328x16.Idx := Finset.univ.filter fun x => (x 0).val = t.val

variable (q : PosShare TreeShare) (ft : S2600000x16.Idx → Elt F .f32) (fl : S3328.Idx → BitVec 32) (fr : S3328x16.Idx → Elt F .f32)

/-- A row transfer's resources with the row scratch at `g`: row `t` of it, entry `t` of the list, a share of the table. -/
def rowRes (g : S3328x16.Idx → Elt F .f32) (t : Fin 3328) : sProp 𝕄 :=
  iprop((((rV).view.loc (thr d L) ↦[rowSet t]{fullShare} g)
      ∗ ((sV).view.loc (thr d L) ↦[{ix1 t}]{fullShare} fl))
    ∗ ((tV).view.loc (thr d L) ↦{pieceOf q 3328 (by decide) t} ft))

instance rowRes_storable (g : S3328x16.Idx → Elt F .f32) (t : Fin 3328) : BI.Storable (upEmb : UEmb _ 𝕄) (rowRes (F := F) d L q ft fl g t) := by
  unfold rowRes; infer_instance

abbrev dstAt (k : ℕ) (h : ∀ a, (![k, 0] : Fin 2 → Nat) a + S128x16.size a ≤ S3328x16.size a) : Memref sig .scVector .vmem S128x16 .f32 :=
  (rV).slice (Rect.unit (s := S3328x16) ![k, 0] S128x16.size h) (fun _ => rfl)
abbrev offAt (k : ℕ) (h : ∀ a, (![k] : Fin 1 → Nat) a + S128.size a ≤ S3328.size a) : Memref sig .scVector .vmem S128 .i32 :=
  (sV).slice (Rect.unit (s := S3328) ![k] S128.size h) (fun _ => rfl)
abbrev tabAll : Memref sig .scVector .hbm S2600000x16 .f32 :=
  (tV).slice (Rect.unit (s := S2600000x16) ![0, 0] S2600000x16.size inb_S2600000x16_S2600000x16_0_0) (fun _ => rfl)

theorem tabAll_emb (x : S2600000x16.Idx) : tabAll.view.emb x = x := by
  funext a; apply Fin.ext
  change (![0, 0] : Fin 2 → Nat) a + 1 * (x a).val = (x a).val
  match a with
  | 0 => simp
  | 1 => simp

theorem tabAll_set : tabAll.view.set = Finset.univ := by
  ext x
  simp only [View.set, Finset.mem_map, Finset.mem_univ, true_and, iff_true]
  exact ⟨x, tabAll_emb x⟩

theorem tabAll_read (f : S2600000x16.Idx → Elt F .f32) (x : S2600000x16.Idx) : tabAll.view.read (Elt F) f x = f x := by
  rw [View.read_apply]; exact (cast_eq _ _).trans (congrArg f (tabAll_emb x))

theorem axis_eq : (gathers_S2600000x16_S128x16 : S2600000x16.Gathers 0 S128x16).axis' = (0 : Fin 2) := rfl

/-- Row `j` of the destination at offset `k`, element `i`. -/
theorem dst_emb (k : ℕ) (h) (j : Fin 128) (i : (S128x16.rowShape (0 : Fin 2)).Idx) :
    (((dstAt k h).view.slice (S128x16.rowRect (0 : Fin 2) j)).emb i 0).val = k + j.val
      ∧ (((dstAt k h).view.slice (S128x16.rowRect (0 : Fin 2) j)).emb i 1).val = (i (1 : Fin 2)).val := by
  have e0 := Shape.rowRect_emb_val (s := S128x16) (0 : Fin 2) j i (0 : Fin 2)
  have e1 := Shape.rowRect_emb_val (s := S128x16) (0 : Fin 2) j i (1 : Fin 2)
  constructor
  · change (![k, 0] : Fin 2 → Nat) 0 + 1 * ((S128x16.rowRect (0 : Fin 2) j).emb i (0 : Fin 2)).val = _
    rw [e0]; simp
  · change (![k, 0] : Fin 2 → Nat) 1 + 1 * ((S128x16.rowRect (0 : Fin 2) j).emb i (1 : Fin 2)).val = _
    rw [e1]; simp

theorem dst_set (k : ℕ) (h) (j : Fin 128) (hk : k + j.val < 3328) :
    ((dstAt k h).view.slice (S128x16.rowRect (0 : Fin 2) j)).set = rowSet ⟨k + j.val, hk⟩ := by
  ext x
  simp only [View.set, rowSet, Finset.mem_map, Finset.mem_univ, true_and, Finset.mem_filter]
  constructor
  · rintro ⟨i, rfl⟩; exact (dst_emb k h j i).1
  · intro hx
    let y : S128x16.Idx := ix2 j (x 1)
    refine ⟨S128x16.rowProj (0 : Fin 2) y, ?_⟩
    have hy : ((S128x16.rowProj (0 : Fin 2) y) (1 : Fin 2)).val = (x 1).val := by
      unfold Shape.rowProj; rw [dif_neg (show ¬ (1 : Fin 2) = 0 by decide)]
    funext a; apply Fin.ext
    match a with
    | 0 => exact (dst_emb k h j _).1.trans hx.symm
    | 1 => exact (dst_emb k h j _).2.trans hy

theorem off_emb (k : ℕ) (h) (j : Fin 128) (hk : k + j.val < 3328) :
    (offAt k h).view.emb (S128.rowMajor.symm (j.cast (by decide))) = ix1 ⟨k + j.val, hk⟩ := by
  funext a; apply Fin.ext
  match a with
  | 0 =>
    change (![k] : Fin 1 → Nat) 0 + 1 * ((S128.rowMajor.symm (j.cast _)) 0).val = k + j.val
    have : ((S128.rowMajor.symm (j.cast (by decide))) (0 : Fin 1)).val = j.val := by
      have h1 := Shape.rowMajor_val_one (S128.rowMajor.symm (j.cast (by decide)))
      rw [Equiv.apply_symm_apply] at h1
      exact h1.symm
    rw [this]; simp

/-- The units a row's landing credits. -/
abbrev rowCredit : ℕ := 512

variable [FloatOps F]

theorem row_credit (k : ℕ) (h) (j) :
    ((dstAt k h).slice (S128x16.rowRect gathers_S2600000x16_S128x16.axis' j) (S128x16.stride_rowRect gathers_S2600000x16_S128x16.axis' j)).view.dmaCredit = rowCredit :=
  show (Ref.dmaCredit cc0_scratch1 (S128x16.rowShape (0 : Fin 2)) .f32) = 512 by decide

theorem dst_credit (k : ℕ) (h) : (dstAt k h).view.dmaCredit = 128 * rowCredit :=
  show (Ref.dmaCredit cc0_scratch1 S128x16 .f32) = 65536 by decide

/-- Entry `x` of the piece of the list at offset `k`. -/
theorem off_read (k : ℕ) (h) (x : S128.Idx) : ∃ y, (offAt k h).view.read (Elt F) fl x = fl y :=
  ⟨(offAt k h).view.emb x, (View.read_apply _ _).trans (cast_eq _ _)⟩

/-- Entry `j` of the piece of the list at offset `k` is the list's entry `k + j`. -/
theorem off_read_at (k : ℕ) (h) (j : Fin (S128x16.size gathers_S2600000x16_S128x16.axis')) (hk : k + j.val < 3328) :
    (offAt k h).view.read (Elt F) fl (S128.rowMajor.symm (j.cast (by decide))) = fl (ix1 ⟨k + j.val, hk⟩) :=
  ((View.read_apply _ _).trans (cast_eq _ _)).trans (congrArg fl (off_emb k h j hk))

/-- What row `j` of the gather at offset `k` writes is the chunk's row `k + j`. -/
theorem landed_eq (k : ℕ) (h1) (h2) (hin) (hn) (j : Fin (S128x16.size gathers_S2600000x16_S128x16.axis')) (hk : k + j.val < 3328) :
    ∀ y ∈ rowSet ⟨k + j.val, hk⟩,
      (((dstAt k h1).view.slice (S128x16.rowRect gathers_S2600000x16_S128x16.axis' j)).write (Elt F) fr
        (fun i => tabAll.view.read (Elt F) ft (gathers_S2600000x16_S128x16.rowIdx
          (SparseCore.rows ((offAt k h2).view.read (Elt F) fl) hn hin j) i)) Finset.univ) y = rowsOf ft fl y := by
  intro y hy
  rw [← dst_set k h1 j hk] at hy
  obtain ⟨i, -, rfl⟩ := Finset.mem_map.mp hy
  refine (View.write_emb_of_mem (v := (dstAt k h1).view.slice (S128x16.rowRect gathers_S2600000x16_S128x16.axis' j)) _ _ (Finset.mem_univ i)).trans ?_
  refine (cast_eq _ _).trans ((tabAll_read ft _).trans (congrArg ft ?_))
  have e := dst_emb k h1 j i
  have hr : (SparseCore.rows ((offAt k h2).view.read (Elt F) fl) hn hin j).val = (rowNo (fl (ix1 ⟨k + j.val, hk⟩))).val := by
    have hb := hin (S128.rowMajor.symm (j.cast (by decide)))
    change ((offAt k h2).view.read (Elt F) fl (S128.rowMajor.symm (j.cast (by decide)))).toNat = _
    rw [off_read_at fl k h2 j hk] at hb ⊢
    exact (rowNo_val hb).symm
  have h0 : ((dstAt k h1).view.slice (S128x16.rowRect (0 : Fin 2) j)).emb i 0 = (⟨k + j.val, hk⟩ : Fin 3328) := Fin.ext e.1
  funext a; apply Fin.ext
  match a with
  | 0 =>
    refine (congrArg Fin.val (Shape.Gathers.rowIdx_axis gathers_S2600000x16_S128x16 _ i)).trans (hr.trans ?_)
    exact congrArg (fun z : Fin 3328 => (rowNo (fl (ix1 z))).val) h0.symm
  | 1 =>
    exact (Shape.Gathers.rowIdx_of_ne gathers_S2600000x16_S128x16 _ i (1 : Fin 2) (by decide)).trans e.2.symm

/-- Issuing the gather of rows `k … k + 127`. -/
theorem wp_issue (k : ℕ) (h1) (h2) (hk : k + 128 ≤ 3328) (hin : ∀ x, (fl x).toNat < 2600000)
    {sem : DmaSem sig} {hp : (thr d L).2.kind = .scVector} {hn : S128.numel = S128x16.size gathers_S2600000x16_S128x16.axis'}
    {hsrc : tabAll.view.WordExact} {he : EltTy.f32.bits = 32} {hsp : Space.hbm = .hbm ∨ Space.hbm = .shared} {hr : S2600000x16.StreamRows 0}
    {α : Type} {bd : Option 𝒱₀.V} {Φ : α → sProp 𝕄}
    {C : PUnit → Prog (TpuEff nD τ sig (Elt F) Λ₀ (.scVector (cV L) (jV L))) α} :
    iprop(bigSep (Transfers.pending k) (rowRes d L q ft fl fr) ∗ Transfers.Batch countersEmb (thr d L) (.dma sem) (default : HIx 1) rowCredit (rowRes d L q ft fl (rowsOf ft fl)) k 0)
      ⊢ iprop((iprop(bigSep (Transfers.pending (k + 128)) (rowRes d L q ft fl fr)
              ∗ Transfers.Batch countersEmb (thr d L) (.dma sem) (default : HIx 1) rowCredit (rowRes d L q ft fl (rowsOf ft fl)) (k + 128) 0)
              -∗ wp frame (wpE (defs₀ (F := F)) 𝒱₀ (thr d L) bd) Set.univ (C ⟨⟩) Φ)
          -∗ wp frame (wpE (defs₀ (F := F)) 𝒱₀ (thr d L) bd) Set.univ
              (SparseCore.enqueueIndirectGather hp tabAll (dstAt k h1) gathers_S2600000x16_S128x16 (offAt k h2) hn sem hsrc he hsp hr >>= C) Φ) := by
  have hin' : ∀ x, ((offAt k h2).view.read (Elt F) fl x).toNat < S2600000x16.size gathers_S2600000x16_S128x16.axis := fun x => by
    obtain ⟨y, hy⟩ := off_read (F := F) fl k h2 x
    rw [hy]; exact hin y
  refine wp_gatherBatch countersEmb 𝒱₀ (thr d L) bd (fs := ft) (fd := fr) (fo := fl) (qo := fullShare)
    (qk := fun j : Fin 128 => pieceOf q 3328 (by decide) ⟨k + j.val, by omega⟩) (default : HIx 1) rowCredit rfl (row_credit k h1) hin' hk (by omega) ?_ ?_
  · intro j
    have hj : k + j.val < 3328 := by omega
    unfold rowRes
    refine Entails.of_eq ?_
    rw [tabAll_set, ← dst_set k h1 j hj, ← off_emb k h2 j hj]
    rfl
  · intro j
    have hj : k + j.val < 3328 := by omega
    unfold rowRes
    refine Entails.of_eq ?_
    have hs : ((dstAt k h1).view.slice (S128x16.rowRect gathers_S2600000x16_S128x16.axis' (j.cast rfl))).set = rowSet ⟨k + j.val, hj⟩ := dst_set k h1 j hj
    refine congrArg₂ BI.sep (congrArg₂ BI.sep ?_ ?_) ?_
    · refine Eq.trans ?_ (pointsTo_congr (landed_eq ft fl fr k h1 h2 hin' hn (j.cast rfl) hj))
      exact congrArg (fun S => ((rV).view.loc (thr d L) ↦[S]{fullShare} _ : sProp 𝕄)) hs
    · rw [← off_emb k h2 j hj]; rfl
    · rw [tabAll_set]

end Chunk

end Cert.Proof.OnKernelIdeal
-- ==== Proof.AtIdeal.ChunkRun.lean ====
/-
  The chunk's gathers run: the steps of TileRows.lean and Batch.lean as rules on two states — `Issuing k`, the rows from `k`
  on still to issue; `Waiting u`, all issued and `u` units consumed — and each printed part of the loop body by them.
-/
module

public import proofs.«01_k».proof.Proof.AtIdeal.TileRows

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.ValueIdx (ix1 ix2 eq_ix1 eq_ix2)

variable {F : FTy → Type}

local notation "𝕄" => MT nD τ sig (HIx 1) (Elt F) ℕ UU ℕ
local notation "tV" => (Memref.whole Cert.KernelIdeal.main_v7_scv : Memref Cert.KernelIdeal.sig Kind.scVector Space.hbm Cert.KernelIdeal.S2600000x16 EltTy.f32)
local notation "iV" => (Memref.whole Cert.KernelIdeal.main_v6_scv : Memref Cert.KernelIdeal.sig Kind.scVector Space.hbm Cert.KernelIdeal.S425984 EltTy.i32)
local notation "oV" => (Memref.whole Cert.KernelIdeal.main_v8_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S3328x16 EltTy.f32)

section Chunk

variable (d : Dev nD) (L : grid0.Coords) (q : PosShare TreeShare)
variable (ft : S2600000x16.Idx → Elt F .f32) (fl : S3328.Idx → BitVec 32) (fr : S3328x16.Idx → Elt F .f32)
variable (O : CellTallies nD τ sig (HIx 1)) (W : Waits sig (HIx 1))

/-- The tile's debts, the waits recorded being `W`'s and unscheduled ones. -/
def Owing : sProp 𝕄 := iprop(∃ W', ⌜∀ p ∈ W', p ∈ W ∨ p.2 = none⌝ ∗ owes (thr d L) O W')

theorem Owing.record {sm : SemLoc sig} {W' : Waits sig (HIx 1)} (h : ∀ p ∈ W', p ∈ W ∨ p.2 = none) :
    (owes (thr d L) O (insert (sm, (default : HIx 1)) W') : sProp 𝕄) ⊢ Owing d L O W := by
  iintro HO
  unfold Owing
  iexists (insert (sm, (default : HIx 1)) W')
  isplitr
  · ipureintro
    intro p hp
    rcases Finset.mem_insert.mp hp with hp | hp
    · exact .inr (by rw [hp]; rfl)
    · exact h p hp
  · iexact HO

/-- The rows from `k` on are still to issue. -/
def Issuing (k : ℕ) : sProp 𝕄 :=
  iprop(bigSep (Transfers.pending k) (rowRes d L q ft fl fr)
    ∗ Transfers.Batch countersEmb (thr d L) (.dma cc0_scratch2.sem) (default : HIx 1) rowCredit (rowRes d L q ft fl (rowsOf ft fl)) k 0)

/-- Every row is issued, `u` units consumed. -/
def Waiting (u : ℕ) : sProp 𝕄 :=
  Transfers.Batch countersEmb (thr d L) (.dma cc0_scratch2.sem) (default : HIx 1) rowCredit (rowRes d L q ft fl (rowsOf ft fl)) 3328 u

/-- What rides along the waits: the evidence they need and the debts. -/
def Riding : sProp 𝕄 := iprop(Transfers.MayWaits (thr d L) (default : HIx 1) O ∗ Owing d L O W)

variable [FloatOps F]
abbrev ProgV (α : Type) : Type 1 := Prog (TpuEff nD τ sig (Elt F) Λ₀ (.scVector (cV L) (jV L))) α
abbrev wpV {α : Type} (p : ProgV (F := F) L α) (Φ : α → sProp 𝕄) : sProp 𝕄 := wp frame (wpE (defs₀ (F := F)) 𝒱₀ (thr d L) none) Set.univ p Φ

theorem issue_step (k : ℕ) (h1) (h2) (hk : k + 128 ≤ 3328) (hin : ∀ x, (fl x).toNat < 2600000)
    {hp : (thr d L).2.kind = .scVector} {hn : S128.numel = S128x16.size gathers_S2600000x16_S128x16.axis'}
    {hsrc : tabAll.view.WordExact} {he : EltTy.f32.bits = 32} {hsp : Space.hbm = .hbm ∨ Space.hbm = .shared} {hr : S2600000x16.StreamRows 0}
    {α : Type} {Φ : α → sProp 𝕄} {R : sProp 𝕄} {C : PUnit → ProgV (F := F) L α}
    (h : iprop(Issuing d L q ft fl fr (k + 128) ∗ R) ⊢ wpV d L (C ⟨⟩) Φ) :
    iprop(Issuing d L q ft fl fr k ∗ R) ⊢ wpV d L
      (SparseCore.enqueueIndirectGather hp tabAll (dstAt k h1) gathers_S2600000x16_S128x16 (offAt k h2) hn cc0_scratch2.sem hsrc he hsp hr >>= C) Φ := by
  unfold Issuing at h ⊢
  iintro ⟨H, HR⟩
  iapply (wp_issue d L q ft fl fr k h1 h2 hk hin) $$ H
  iintro H
  iapply h
  isplitl [H]; · iexact H
  iexact HR

theorem wait_step (u : ℕ) (k : ℕ) (h1) (hu : u + 65536 ≤ 1703936)
    {hsrc : tabAll.view.WordExact} {hdst : (dstAt k h1).view.WordExact} {α : Type} {Φ : α → sProp 𝕄} {R : sProp 𝕄} {C : PUnit → ProgV (F := F) L α}
    (h : iprop(Waiting d L q ft fl (u + 65536) ∗ Riding d L O W ∗ R) ⊢ wpV d L (C ⟨⟩) Φ) :
    iprop(Waiting d L q ft fl u ∗ Riding d L O W ∗ R) ⊢ wpV d L
      (SparseCore.waitIndirectGather cc0_scratch2.sem tabAll (dstAt k h1) hsrc hdst >>= C) Φ := by
  unfold Waiting Riding at h ⊢
  unfold Owing
  iintro ⟨H, ⟨#Hmw, %W', %hW', HO⟩, HR⟩
  iapply (Transfers.wp_waitBatchMulO countersEmb 𝒱₀ (thr d L) none (default : HIx 1) 128 (dst_credit k h1) (N := rowCredit) (j := 3328) (u := u) (show u + 128 * 512 ≤ 512 * 3328 from hu)) $$ [H HO]
  · isplitl [H]; · iexact H
    isplitl [HO]; · iexact HO
    iapply (Transfers.MayWaits.elim (SemLoc.dma cc0_scratch2.sem)) $$ Hmw
  iintro ⟨H, HO⟩
  iapply h
  isplitl [H]; · iexact H
  isplitr [HR]
  · isplitr; · iexact Hmw
    iapply (Owing.record d L O W hW') $$ HO
  iexact HR

theorem wait_last (k : ℕ) (h1)
    {hsrc : tabAll.view.WordExact} {hdst : (dstAt k h1).view.WordExact} {α : Type} {Φ : α → sProp 𝕄} {R : sProp 𝕄} {C : PUnit → ProgV (F := F) L α}
    (h : iprop((bigSep Finset.univ (rowRes d L q ft fl (rowsOf ft fl)) ∗ semVal (thr d L, .dma cc0_scratch2.sem) 0) ∗ Riding d L O W ∗ R) ⊢ wpV d L (C ⟨⟩) Φ) :
    iprop(Waiting d L q ft fl 1638400 ∗ Riding d L O W ∗ R) ⊢ wpV d L
      (SparseCore.waitIndirectGather cc0_scratch2.sem tabAll (dstAt k h1) hsrc hdst >>= C) Φ := by
  unfold Riding at h ⊢
  unfold Waiting Owing
  iintro ⟨H, ⟨#Hmw, %W', %hW', HO⟩, HR⟩
  iapply (Transfers.wp_waitBatchAllO countersEmb 𝒱₀ (thr d L) none (default : HIx 1) (dst_credit k h1) (N := rowCredit) (u := 1638400) (by decide) (show 1638400 + 128 * 512 = 512 * 3328 from rfl)) $$ [H HO]
  · isplitl [H]; · iexact H
    isplitl [HO]; · iexact HO
    iapply (Transfers.MayWaits.elim (SemLoc.dma cc0_scratch2.sem)) $$ Hmw
  iintro ⟨H, Hv, HO⟩
  iapply h
  isplitl [H Hv]
  · isplitl [H]; · iexact H
    iexact Hv
  isplitr [HR]
  · isplitr; · iexact Hmw
    iapply (Owing.record d L O W hW') $$ HO
  iexact HR

/-- All rows issued: none is left to issue. -/
theorem issued : (Issuing d L q ft fl fr 3328 : sProp 𝕄) ⊢ Waiting d L q ft fl 0 := by
  unfold Issuing Waiting
  iintro ⟨-, H⟩
  iexact H

theorem part_end {α : Type} {a : α} {P : sProp 𝕄} {Φ : α → sProp 𝕄} (h : P ⊢ Φ a) : P ⊢ wpV d L (pure a : ProgV (F := F) L α) Φ := by
  have e : iprop(|={Set.univ}=> Φ a) ⊢ wpV d L (pure a : ProgV (F := F) L α) Φ := Entails.of_eq (wp_ret ..).symm
  iintro H; iapply e; imodintro; iapply h; iexact H

theorem part_seq {α : Type} {Φ : α → sProp 𝕄} {P Q : sProp 𝕄} {p : ProgV (F := F) L PUnit} {k : PUnit → ProgV (F := F) L α}
    (h : P ⊢ wpV d L p fun _ => Q) (hk : Q ⊢ wpV d L (k ⟨⟩) Φ) : P ⊢ wpV d L (p >>= k) Φ := by
  refine (h.trans (wp_mono frame _ _ fun _ => hk)).trans (Entails.of_eq ?_)
  exact (wp_bind ..).symm

/-- A transfer of this tile issued and at once waited for. -/
theorem copy_step {sp sp' : Space} {s : Shape} {e : EltTy} {src : Memref sig .scVector sp s e} {dst : Memref sig .scVector sp' s e}
    {sem : DmaSem sig} {hs1 : src.view.WordExact} {hd1 : dst.view.WordExact} {hs2 : src.view.WordExact} {hd2 : dst.view.WordExact}
    {ht : (DmaTarget.here dst : DmaTarget nD τ sig (.scVector (cV L) (jV L)) sp' s e).Typed sp (.dma sem)} {q : PosShare TreeShare} {fs : Buf (Elt F) (src.view.loc (thr d L))}
    {Sd : Finset (Idx (dst.view.loc (thr d L)))} {fd : Buf (Elt F) (dst.view.loc (thr d L))}
    (N : ℕ) (hN : dst.view.dmaCredit = N) (hN0 : 0 < N) (hSd : dst.view.set ⊆ Sd)
    {α : Type} {Φ : α → sProp 𝕄} {R : sProp 𝕄} {C : PUnit → ProgV (F := F) L α}
    (h : iprop(((dst.view.loc (thr d L) ↦[Sd]{fullShare} dst.view.write (Elt F) fd (src.view.read (Elt F) fs) Finset.univ)
        ∗ (src.view.loc (thr d L) ↦[src.view.set]{q} fs) ∗ semVal (thr d L, .dma sem) 0) ∗ Riding d L O W ∗ R) ⊢ wpV d L (C ⟨⟩) Φ) :
    iprop(((dst.view.loc (thr d L) ↦[Sd]{fullShare} fd) ∗ (src.view.loc (thr d L) ↦[src.view.set]{q} fs) ∗ semVal (thr d L, .dma sem) 0)
        ∗ Riding d L O W ∗ R) ⊢ wpV d L
      (Prog.lift (.enqueueDma src (.here dst) (.dma sem) hs1 hd1 ht) >>= fun _ => Prog.lift (.waitDma2 sem src dst hs2 hd2) >>= C) Φ := by
  unfold Riding at h ⊢
  unfold Owing
  iintro ⟨⟨Hd, Hs, Hv⟩, ⟨#Hmw, %W', %hW', HO⟩, HR⟩
  iapply (Transfers.wp_dmaLocal countersEmb 𝒱₀ (thr d L) none (sm := .dma sem) (dst := dst) (default : HIx 1) N hN hN0 hSd) $$ [Hd Hs Hv]
  · isplitl [Hs]; · iexact Hs
    isplitl [Hd]; · iexact Hd
    iexact Hv
  iintro Hfl
  iapply (Transfers.wp_waitLocalO countersEmb 𝒱₀ (thr d L) none (default : HIx 1) hN) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply h
  isplitl [Hd Hs Hv]
  · isplitl [Hd]; · iexact Hd
    isplitl [Hs]; · iexact Hs
    iexact Hv
  isplitr [HR]
  · isplitr; · iexact Hmw
    iapply (Owing.record d L O W hW') $$ HO
  iexact HR

/-- The rows' resources are the row scratch, the list scratch and the table's share. -/
theorem rows_eq (g : S3328x16.Idx → Elt F .f32) :
    (bigSep Finset.univ (rowRes d L q ft fl g) : sProp 𝕄)
      = iprop((((rV).view.loc (thr d L) ↦{fullShare} g) ∗ ((sV).view.loc (thr d L) ↦{fullShare} fl)) ∗ ((tV).view.loc (thr d L) ↦{q} ft)) := by
  have e1 : (Finset.univ : Finset S3328x16.Idx) = Finset.univ.biUnion rowSet := by
    ext x
    simp only [Finset.mem_univ, Finset.mem_biUnion, true_and, true_iff]
    exact ⟨x 0, by simp [rowSet]⟩
  have e2 : (Finset.univ : Finset S3328.Idx) = Finset.univ.biUnion fun t : Fin 3328 => {ix1 t} := by
    ext x
    simp only [Finset.mem_univ, Finset.mem_biUnion, true_and, true_iff, Finset.mem_singleton]
    exact ⟨x 0, eq_ix1 x⟩
  have d1 : ∀ t ∈ (Finset.univ : Finset (Fin 3328)), ∀ t' ∈ (Finset.univ : Finset (Fin 3328)), t ≠ t' → Disjoint (rowSet t) (rowSet t') := by
    intro t _ t' _ h
    rw [Finset.disjoint_left]
    intro x hx hx'
    simp only [rowSet, Finset.mem_filter, Finset.mem_univ, true_and] at hx hx'
    exact h (Fin.ext (hx.symm.trans hx'))
  have d2 : ∀ t ∈ (Finset.univ : Finset (Fin 3328)), ∀ t' ∈ (Finset.univ : Finset (Fin 3328)), t ≠ t' →
      Disjoint ({ix1 t} : Finset S3328.Idx) {ix1 t'} := by
    intro t _ t' _ h
    rw [Finset.disjoint_singleton]
    exact fun e => h (congrFun e 0)
  have p1 := pointsTo_biUnion (ℓ := (rV).view.loc (thr d L)) (q := fullShare) (f := g) (Name := ℕ) (U := UU) (Ix := HIx 1) (Lvl := ℕ) Finset.univ rowSet d1
  have p2 := pointsTo_biUnion (ℓ := (sV).view.loc (thr d L)) (q := fullShare) (Val := Elt F) (f := fl) (Name := ℕ) (U := UU) (Ix := HIx 1) (Lvl := ℕ) Finset.univ (fun t : Fin 3328 => {ix1 t}) d2
  have p3 := pointsTo_piecesOf (ℓ := (tV).view.loc (thr d L)) (Name := ℕ) (U := UU) (Ix := HIx 1) (Lvl := ℕ) Finset.univ ft (o := 3328) (by decide) q
  rw [← e1] at p1
  rw [← e2] at p2
  unfold rowRes
  rw [p3, bigSep_sep', bigSep_sep']
  exact congrArg (fun A => iprop(A ∗ _)) (congrArg₂ BI.sep p1.symm p2.symm)

/-- The chunk's batch opened on the three arrays. -/
theorem open_batch :
    iprop((((rV).view.loc (thr d L) ↦{fullShare} fr) ∗ ((sV).view.loc (thr d L) ↦{fullShare} fl)) ∗ ((tV).view.loc (thr d L) ↦{q} ft)
      ∗ semVal (thr d L, .dma cc0_scratch2.sem) 0) ⊢ (|={Set.univ}=> Issuing d L q ft fl fr 0 : sProp 𝕄) := by
  iintro ⟨H1, H2, Hv⟩
  imod (Transfers.batch_alloc' countersEmb (c := thr d L) (default : HIx 1) rowCredit (rowRes d L q ft fl (rowsOf ft fl)) (E := Set.univ)) $$ Hv with Hb
  imodintro
  unfold Issuing
  isplitr [Hb]
  · iapply (Entails.of_eq (Transfers.bigSep_pending_zero (rowRes d L q ft fl fr)))
    iapply (Entails.of_eq (rows_eq d L q ft fl fr).symm)
    isplitl [H1]; · iexact H1
    iexact H2
  · iexact Hb

/-- The piece of the list, and of the result, a trip of the loop is about. -/
abbrev idxAt (t : Fin k0_t1_loop.trips) : Memref sig .scVector .hbm S3328 .i32 :=
  (iV).slice (Rect.unit (s := S425984) (k0_off1 L t) S3328.size (k0_off1_inb L t)) (fun _ => rfl)
abbrev outAt (t : Fin k0_t1_loop.trips) : Memref sig .scVector .hbm S3328x16 .f32 :=
  (oV).slice (Rect.unit (s := S425984x16) (k0_off2 L t) S3328x16.size (k0_off2_inb L t)) (fun _ => rfl)

/-- The chunk's list, fetched. -/
def listOf (F : FTy → Type) (fi : S425984.Idx → BitVec 32) (t : Fin k0_t1_loop.trips) : S3328.Idx → BitVec 32 := (idxAt L t).view.read (Elt F) fi

theorem part2 {R : sProp 𝕄} (hin : ∀ x, (fl x).toNat < 2600000) :
    iprop(Issuing d L q ft fl fr 640 ∗ R) ⊢ wpV d L
      (k0_part2 L tV (Memref.isWhole_whole _) iV (Memref.isWhole_whole _) oV (Memref.isWhole_whole _)
        sV (Memref.isWhole_whole _) rV (Memref.isWhole_whole _) cc0_scratch2 cc0_scoped0 cc0_scoped1) fun _ => iprop(Issuing d L q ft fl fr 1536 ∗ R) := by
  rw [k0_part2_eq_skeleton]; unfold k0_part2_skel
  refine issue_step d L q ft fl fr 640 _ _ (by decide) hin ?_
  refine issue_step d L q ft fl fr 768 _ _ (by decide) hin ?_
  refine issue_step d L q ft fl fr 896 _ _ (by decide) hin ?_
  refine issue_step d L q ft fl fr 1024 _ _ (by decide) hin ?_
  refine issue_step d L q ft fl fr 1152 _ _ (by decide) hin ?_
  refine issue_step d L q ft fl fr 1280 _ _ (by decide) hin ?_
  refine issue_step d L q ft fl fr 1408 _ _ (by decide) hin ?_
  exact part_end d L .rfl

theorem part3 {R : sProp 𝕄} (hin : ∀ x, (fl x).toNat < 2600000) :
    iprop(Issuing d L q ft fl fr 1536 ∗ R) ⊢ wpV d L
      (k0_part3 L tV (Memref.isWhole_whole _) iV (Memref.isWhole_whole _) oV (Memref.isWhole_whole _)
        sV (Memref.isWhole_whole _) rV (Memref.isWhole_whole _) cc0_scratch2 cc0_scoped0 cc0_scoped1) fun _ => iprop(Issuing d L q ft fl fr 2304 ∗ R) := by
  rw [k0_part3_eq_skeleton]; unfold k0_part3_skel
  refine issue_step d L q ft fl fr 1536 _ _ (by decide) hin ?_
  refine issue_step d L q ft fl fr 1664 _ _ (by decide) hin ?_
  refine issue_step d L q ft fl fr 1792 _ _ (by decide) hin ?_
  refine issue_step d L q ft fl fr 1920 _ _ (by decide) hin ?_
  refine issue_step d L q ft fl fr 2048 _ _ (by decide) hin ?_
  refine issue_step d L q ft fl fr 2176 _ _ (by decide) hin ?_
  exact part_end d L .rfl

theorem part4 {R : sProp 𝕄} (hin : ∀ x, (fl x).toNat < 2600000) :
    iprop(Issuing d L q ft fl fr 2304 ∗ R) ⊢ wpV d L
      (k0_part4 L tV (Memref.isWhole_whole _) iV (Memref.isWhole_whole _) oV (Memref.isWhole_whole _)
        sV (Memref.isWhole_whole _) rV (Memref.isWhole_whole _) cc0_scratch2 cc0_scoped0 cc0_scoped1) fun _ => iprop(Issuing d L q ft fl fr 3200 ∗ R) := by
  rw [k0_part4_eq_skeleton]; unfold k0_part4_skel
  refine issue_step d L q ft fl fr 2304 _ _ (by decide) hin ?_
  refine issue_step d L q ft fl fr 2432 _ _ (by decide) hin ?_
  refine issue_step d L q ft fl fr 2560 _ _ (by decide) hin ?_
  refine issue_step d L q ft fl fr 2688 _ _ (by decide) hin ?_
  refine issue_step d L q ft fl fr 2816 _ _ (by decide) hin ?_
  refine issue_step d L q ft fl fr 2944 _ _ (by decide) hin ?_
  refine issue_step d L q ft fl fr 3072 _ _ (by decide) hin ?_
  exact part_end d L .rfl

theorem part5 {R : sProp 𝕄} (hin : ∀ x, (fl x).toNat < 2600000) :
    iprop(Issuing d L q ft fl fr 3200 ∗ Riding d L O W ∗ R) ⊢ wpV d L
      (k0_part5 L tV (Memref.isWhole_whole _) iV (Memref.isWhole_whole _) oV (Memref.isWhole_whole _)
        sV (Memref.isWhole_whole _) rV (Memref.isWhole_whole _) cc0_scratch2 cc0_scoped0 cc0_scoped1) fun _ => iprop(Waiting d L q ft fl 393216 ∗ Riding d L O W ∗ R) := by
  rw [k0_part5_eq_skeleton]; unfold k0_part5_skel
  refine issue_step d L q ft fl fr 3200 _ _ (by decide) hin ?_
  refine (sep_mono_left (issued d L q ft fl fr)).trans ?_
  refine wait_step d L q ft fl O W 0 0 _ (by decide) ?_
  refine wait_step d L q ft fl O W 65536 128 _ (by decide) ?_
  refine wait_step d L q ft fl O W 131072 256 _ (by decide) ?_
  refine wait_step d L q ft fl O W 196608 384 _ (by decide) ?_
  refine wait_step d L q ft fl O W 262144 512 _ (by decide) ?_
  refine wait_step d L q ft fl O W 327680 640 _ (by decide) ?_
  exact part_end d L .rfl

theorem part6 {R : sProp 𝕄} :
    iprop(Waiting d L q ft fl 393216 ∗ Riding d L O W ∗ R) ⊢ wpV d L
      (k0_part6 L tV (Memref.isWhole_whole _) iV (Memref.isWhole_whole _) oV (Memref.isWhole_whole _)
        sV (Memref.isWhole_whole _) rV (Memref.isWhole_whole _) cc0_scratch2 cc0_scoped0 cc0_scoped1) fun _ => iprop(Waiting d L q ft fl 786432 ∗ Riding d L O W ∗ R) := by
  rw [k0_part6_eq_skeleton]; unfold k0_part6_skel
  refine wait_step d L q ft fl O W 393216 768 _ (by decide) ?_
  refine wait_step d L q ft fl O W 458752 896 _ (by decide) ?_
  refine wait_step d L q ft fl O W 524288 1024 _ (by decide) ?_
  refine wait_step d L q ft fl O W 589824 1152 _ (by decide) ?_
  refine wait_step d L q ft fl O W 655360 1280 _ (by decide) ?_
  refine wait_step d L q ft fl O W 720896 1408 _ (by decide) ?_
  exact part_end d L .rfl

theorem part7 {R : sProp 𝕄} :
    iprop(Waiting d L q ft fl 786432 ∗ Riding d L O W ∗ R) ⊢ wpV d L
      (k0_part7 L tV (Memref.isWhole_whole _) iV (Memref.isWhole_whole _) oV (Memref.isWhole_whole _)
        sV (Memref.isWhole_whole _) rV (Memref.isWhole_whole _) cc0_scratch2 cc0_scoped0 cc0_scoped1) fun _ => iprop(Waiting d L q ft fl 1245184 ∗ Riding d L O W ∗ R) := by
  rw [k0_part7_eq_skeleton]; unfold k0_part7_skel
  refine wait_step d L q ft fl O W 786432 1536 _ (by decide) ?_
  refine wait_step d L q ft fl O W 851968 1664 _ (by decide) ?_
  refine wait_step d L q ft fl O W 917504 1792 _ (by decide) ?_
  refine wait_step d L q ft fl O W 983040 1920 _ (by decide) ?_
  refine wait_step d L q ft fl O W 1048576 2048 _ (by decide) ?_
  refine wait_step d L q ft fl O W 1114112 2176 _ (by decide) ?_
  refine wait_step d L q ft fl O W 1179648 2304 _ (by decide) ?_
  exact part_end d L .rfl

theorem part8 {R : sProp 𝕄} (t : Fin k0_t1_loop.trips) :
    iprop(Waiting d L q ft fl 1245184 ∗ Riding d L O W ∗ R) ⊢ wpV d L
      (k0_part8 L tV (Memref.isWhole_whole _) iV (Memref.isWhole_whole _) oV (Memref.isWhole_whole _)
        sV (Memref.isWhole_whole _) rV (Memref.isWhole_whole _) cc0_scratch2 cc0_scoped0 cc0_scoped1 t)
      fun _ => iprop((bigSep Finset.univ (rowRes d L q ft fl (rowsOf ft fl)) ∗ semVal (thr d L, .dma cc0_scratch2.sem) 0) ∗ Riding d L O W ∗ R) := by
  rw [k0_part8_eq_skeleton]; unfold k0_part8_skel
  refine wait_step d L q ft fl O W 1245184 2432 _ (by decide) ?_
  refine wait_step d L q ft fl O W 1310720 2560 _ (by decide) ?_
  refine wait_step d L q ft fl O W 1376256 2688 _ (by decide) ?_
  refine wait_step d L q ft fl O W 1441792 2816 _ (by decide) ?_
  refine wait_step d L q ft fl O W 1507328 2944 _ (by decide) ?_
  refine wait_step d L q ft fl O W 1572864 3072 _ (by decide) ?_
  refine wait_last d L q ft fl O W 3200 _ ?_
  exact part_end d L .rfl

end Chunk

end Cert.Proof.OnKernelIdeal
-- ==== Proof.AtIdeal.ChunkBody.lean ====
/-
  One trip of a tile's loop: the chunk of the list fetched, its rows gathered, the rows written out. What the trip leaves of the
  result array is the array with the chunk's rows written over the trip's piece.
-/
module

public import proofs.«01_k».proof.Proof.AtIdeal.ChunkRun

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.ValueIdx (ix1 ix2 eq_ix1 eq_ix2)

variable {F : FTy → Type}

local notation "𝕄" => MT nD τ sig (HIx 1) (Elt F) ℕ UU ℕ
local notation "tV" => (Memref.whole Cert.KernelIdeal.main_v7_scv : Memref Cert.KernelIdeal.sig Kind.scVector Space.hbm Cert.KernelIdeal.S2600000x16 EltTy.f32)
local notation "iV" => (Memref.whole Cert.KernelIdeal.main_v6_scv : Memref Cert.KernelIdeal.sig Kind.scVector Space.hbm Cert.KernelIdeal.S425984 EltTy.i32)
local notation "oV" => (Memref.whole Cert.KernelIdeal.main_v8_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S3328x16 EltTy.f32)

section Chunk

variable (d : Dev nD) (L : grid0.Coords) (q qi : PosShare TreeShare)
variable (ft : S2600000x16.Idx → Elt F .f32) (fi : S425984.Idx → BitVec 32)
variable (O : CellTallies nD τ sig (HIx 1)) (W : Waits sig (HIx 1)) (So : Finset S425984x16.Idx)

/-- What a tile holds between two trips, its piece `So` of the result at `fo`. -/
def Held (fo : S425984x16.Idx → Elt F .f32) : sProp 𝕄 :=
  iprop(((iV).view.loc (thr d L) ↦{qi} fi) ∗ ((tV).view.loc (thr d L) ↦{q} ft)
    ∗ (∃ fs, (sV).view.loc (thr d L) ↦{fullShare} fs) ∗ (∃ fr, (rV).view.loc (thr d L) ↦{fullShare} fr)
    ∗ semVal (thr d L, .dma cc0_scoped0.sem) 0 ∗ semVal (thr d L, .dma cc0_scoped1.sem) 0 ∗ semVal (thr d L, .dma cc0_scratch2.sem) 0
    ∗ ((oV).view.loc (thr d L) ↦[So]{fullShare} fo) ∗ Riding d L O W)

variable [FloatOps F]

theorem fupd_step {α : Type} {P Q : sProp 𝕄} {p : ProgV (F := F) L α} {Φ : α → sProp 𝕄}
    (h : P ⊢ iprop(|={Set.univ}=> Q)) (hp : Q ⊢ wpV d L p Φ) : P ⊢ wpV d L p Φ := by
  have e := fupd_wp_eq frame (wpE (defs₀ (F := F)) 𝒱₀ (thr d L) none) Set.univ p Φ
  iintro H
  iapply (Entails.of_eq e)
  ihave H' := h $$ H
  imod H' with H'
  imodintro
  iapply hp; iexact H'

variable {L}

theorem part1 {R : sProp 𝕄} (hin : ∀ x, (fi x).toNat < 2600000) (t : Fin k0_t1_loop.trips) (v2 : BitVec 32)
    (fs : S3328.Idx → BitVec 32) (fr : S3328x16.Idx → Elt F .f32) :
    iprop((((sV).view.loc (thr d L) ↦{fullShare} fs) ∗ ((idxAt L t).view.loc (thr d L) ↦[(idxAt L t).view.set]{qi} fi)
          ∗ semVal (thr d L, .dma cc0_scoped0.sem) 0) ∗ Riding d L O W
        ∗ ((((rV).view.loc (thr d L) ↦{fullShare} fr) ∗ ((tV).view.loc (thr d L) ↦{q} ft) ∗ semVal (thr d L, .dma cc0_scratch2.sem) 0) ∗ R)) ⊢ wpV d L
      (k0_part1 L tV (Memref.isWhole_whole _) iV (Memref.isWhole_whole _) oV (Memref.isWhole_whole _)
        sV (Memref.isWhole_whole _) rV (Memref.isWhole_whole _) cc0_scratch2 cc0_scoped0 cc0_scoped1 v2 0#32 1#32 t)
      fun _ => iprop(Issuing d L q ft (listOf L F fi t) fr 640 ∗ Riding d L O W
        ∗ (((idxAt L t).view.loc (thr d L) ↦[(idxAt L t).view.set]{qi} fi) ∗ semVal (thr d L, .dma cc0_scoped0.sem) 0) ∗ R) := by
  rw [k0_part1_eq_skeleton]; unfold k0_part1_skel
  have hin' : ∀ x, (listOf L F fi t x).toNat < 2600000 := fun x => by
    rw [show listOf L F fi t x = fi ((idxAt L t).view.emb x) from (View.read_apply _ _).trans (cast_eq _ _)]
    exact hin _
  refine copy_step d L O W (dst := sV) (src := idxAt L t) (q := qi) 106496 (by decide) (by decide) (Finset.subset_univ _) ?_
  refine fupd_step d L (Q := iprop(Issuing d L q ft (listOf L F fi t) fr 0 ∗ Riding d L O W
        ∗ (((idxAt L t).view.loc (thr d L) ↦[(idxAt L t).view.set]{qi} fi) ∗ semVal (thr d L, .dma cc0_scoped0.sem) 0) ∗ R)) ?_ ?_
  · have e := open_batch d L q ft (listOf L F fi t) fr
    iintro ⟨⟨Hs, Hi, HA⟩, HR, ⟨Hr, Ht, HG⟩, H⟩
    rw [show (sV).view.write (Elt F) fs ((idxAt L t).view.read (Elt F) fi) Finset.univ = listOf L F fi t from View.write_whole_univ ..]
    imod e $$ [Hr Hs Ht HG] with Hb
    · isplitl [Hr Hs]
      · isplitl [Hr]; · iexact Hr
        iexact Hs
      isplitl [Ht]; · iexact Ht
      iexact HG
    imodintro
    isplitl [Hb]; · iexact Hb
    isplitl [HR]; · iexact HR
    isplitl [Hi HA]
    · isplitl [Hi]; · iexact Hi
      iexact HA
    iexact H
  refine issue_step d L q ft _ fr 0 _ _ (by decide) hin' ?_
  refine issue_step d L q ft _ fr 128 _ _ (by decide) hin' ?_
  refine issue_step d L q ft _ fr 256 _ _ (by decide) hin' ?_
  refine issue_step d L q ft _ fr 384 _ _ (by decide) hin' ?_
  refine issue_step d L q ft _ fr 512 _ _ (by decide) hin' ?_
  exact part_end d L .rfl

/-- The result array after trip `t`. -/
def stepOut (t : Fin k0_t1_loop.trips) (fo : S425984x16.Idx → Elt F .f32) : S425984x16.Idx → Elt F .f32 :=
  (outAt L t).view.write (Elt F) fo (rowsOf ft (listOf L F fi t)) Finset.univ

/-- The rows written out: the end of the trip. -/
theorem body_out (t : Fin k0_t1_loop.trips) (hSo : (outAt L t).view.set ⊆ So) (fo : S425984x16.Idx → Elt F .f32) :
    iprop((bigSep Finset.univ (rowRes d L q ft (listOf L F fi t) (rowsOf ft (listOf L F fi t))) ∗ semVal (thr d L, .dma cc0_scratch2.sem) 0)
        ∗ Riding d L O W ∗ (((idxAt L t).view.loc (thr d L) ↦[(idxAt L t).view.set]{qi} fi) ∗ semVal (thr d L, .dma cc0_scoped0.sem) 0)
        ∗ ((oV).view.loc (thr d L) ↦[So]{fullShare} fo) ∗ semVal (thr d L, .dma cc0_scoped1.sem) 0
        ∗ ((iV).view.loc (thr d L) ↦[Finset.univ \ (idxAt L t).view.set]{qi} fi)) ⊢ wpV d L
      (Prog.lift (.enqueueDma rV (.here (outAt L t)) (.dma cc0_scoped1.sem) (Memref.isWhole_whole _).wordExact (View.wordExact_bits rfl) ⟨Or.inl rfl, trivial⟩)
        >>= fun _ => Prog.lift (.waitDma2 cc0_scoped1.sem rV (outAt L t) (Memref.isWhole_whole _).wordExact (View.wordExact_bits rfl)) >>= fun _ => pure 0#32)
      fun _ => Held d L q qi ft fi O W So (stepOut (L := L) ft fi t fo) := by
  rw [rows_eq]
  have hset : (rV).view.set = Finset.univ := View.set_whole _
  have e0 : ((rV).view.loc (thr d L) ↦{fullShare} rowsOf ft (listOf L F fi t) : sProp 𝕄)
      = (rV).view.loc (thr d L) ↦[(rV).view.set]{fullShare} rowsOf ft (listOf L F fi t) := by rw [hset]
  have key := copy_step d L O W (dst := outAt L t) (src := rV) (sem := cc0_scoped1.sem) (q := fullShare) (fs := rowsOf ft (listOf L F fi t)) (fd := fo)
    (hs1 := (Memref.isWhole_whole _).wordExact) (hd1 := View.wordExact_bits rfl) (ht := ⟨Or.inl rfl, trivial⟩)
    (hs2 := (Memref.isWhole_whole _).wordExact) (hd2 := View.wordExact_bits rfl)
    1703936 (show (Ref.dmaCredit main_v8_scv S3328x16 .f32) = 1703936 by decide) (by decide) hSo
    (R := iprop((((sV).view.loc (thr d L) ↦{fullShare} listOf L F fi t) ∗ ((tV).view.loc (thr d L) ↦{q} ft))
      ∗ semVal (thr d L, .dma cc0_scratch2.sem) 0 ∗ ((iV).view.loc (thr d L) ↦{qi} fi) ∗ semVal (thr d L, .dma cc0_scoped0.sem) 0))
    (Φ := fun _ => Held d L q qi ft fi O W So (stepOut (L := L) ft fi t fo)) (C := fun _ => pure 0#32) (part_end d L ?_)
  · iintro ⟨⟨⟨⟨Hr, Hs⟩, Ht⟩, HG⟩, HR, ⟨Hi, HA⟩, Ho, HB, Hir⟩
    iapply key
    isplitl [Ho Hr HB]
    · isplitl [Ho]; · iexact Ho
      isplitl [Hr]; · iapply (Entails.of_eq e0); iexact Hr
      iexact HB
    isplitl [HR]; · iexact HR
    isplitl [Hs Ht]
    · isplitl [Hs]; · iexact Hs
      iexact Ht
    isplitl [HG]; · iexact HG
    isplitl [Hi Hir]
    · iapply (pointsTo_split_subset (q := qi) (f := fi) (S := Finset.univ) (Finset.subset_univ (idxAt L t).view.set)).2
      isplitl [Hi]; · iexact Hi
      iexact Hir
    iexact HA
  · unfold Held
    iintro ⟨⟨Ho, Hr, HB⟩, HR, ⟨Hs, Ht⟩, HG, Hi, HA⟩
    isplitl [Hi]; · iexact Hi
    isplitl [Ht]; · iexact Ht
    isplitl [Hs]; · iexists _; iexact Hs
    isplitl [Hr]; · iexists _; iapply (Entails.of_eq e0.symm); iexact Hr
    isplitl [HA]; · iexact HA
    isplitl [HB]; · iexact HB
    isplitl [HG]; · iexact HG
    isplitl [Ho]; · iexact Ho
    iexact HR

theorem body_run (hin : ∀ x, (fi x).toNat < 2600000) (t : Fin k0_t1_loop.trips) (v2 acc : BitVec 32)
    (hSo : (outAt L t).view.set ⊆ So) (fo : S425984x16.Idx → Elt F .f32) :
    Held d L q qi ft fi O W So fo ⊢ wpV d L
      (k0_t1_body L tV (Memref.isWhole_whole _) iV (Memref.isWhole_whole _) oV (Memref.isWhole_whole _)
        sV (Memref.isWhole_whole _) rV (Memref.isWhole_whole _) cc0_scratch2 cc0_scoped0 cc0_scoped1 v2 t acc) fun _ => Held d L q qi ft fi O W So (stepOut (L := L) ft fi t fo) := by
  have hin' : ∀ x, (listOf L F fi t x).toNat < 2600000 := fun x => by
    rw [show listOf L F fi t x = fi ((idxAt L t).view.emb x) from (View.read_apply _ _).trans (cast_eq _ _)]
    exact hin _
  have key : ∀ (fs : S3328.Idx → BitVec 32) (fr : S3328x16.Idx → Elt F .f32),
      iprop((((sV).view.loc (thr d L) ↦{fullShare} fs) ∗ ((idxAt L t).view.loc (thr d L) ↦[(idxAt L t).view.set]{qi} fi)
          ∗ semVal (thr d L, .dma cc0_scoped0.sem) 0) ∗ Riding d L O W
        ∗ ((((rV).view.loc (thr d L) ↦{fullShare} fr) ∗ ((tV).view.loc (thr d L) ↦{q} ft) ∗ semVal (thr d L, .dma cc0_scratch2.sem) 0)
          ∗ ((oV).view.loc (thr d L) ↦[So]{fullShare} fo) ∗ semVal (thr d L, .dma cc0_scoped1.sem) 0
          ∗ ((iV).view.loc (thr d L) ↦[Finset.univ \ (idxAt L t).view.set]{qi} fi))) ⊢ wpV d L
      (k0_t1_body L tV (Memref.isWhole_whole _) iV (Memref.isWhole_whole _) oV (Memref.isWhole_whole _)
        sV (Memref.isWhole_whole _) rV (Memref.isWhole_whole _) cc0_scratch2 cc0_scoped0 cc0_scoped1 v2 t acc) fun _ => Held d L q qi ft fi O W So (stepOut (L := L) ft fi t fo) := fun fs fr => part_seq d L (part1 d q qi ft fi O W hin t v2 fs fr
      (R := iprop(((oV).view.loc (thr d L) ↦[So]{fullShare} fo) ∗ semVal (thr d L, .dma cc0_scoped1.sem) 0
        ∗ ((iV).view.loc (thr d L) ↦[Finset.univ \ (idxAt L t).view.set]{qi} fi)))) <|
    part_seq d L (part2 d L q ft _ fr hin') <| part_seq d L (part3 d L q ft _ fr hin') <| part_seq d L (part4 d L q ft _ fr hin') <|
    part_seq d L (part5 d L q ft _ fr O W hin') <| part_seq d L (part6 d L q ft _ O W) <| part_seq d L (part7 d L q ft _ O W) <|
    part_seq d L (part8 d L q ft _ O W t) (body_out d q qi ft fi O W So t hSo fo)
  unfold Held at key ⊢
  iintro ⟨Hi, Ht, ⟨%fs, Hs⟩, ⟨%fr, Hr⟩, HA, HB, HG, Ho, HR⟩
  ihave Hi' := (pointsTo_split_subset (q := qi) (f := fi) (S := Finset.univ) (Finset.subset_univ (idxAt L t).view.set)).1 $$ Hi
  icases Hi' with ⟨Hi, Hir⟩
  iapply (key fs fr)
  isplitl [Hs Hi HA]
  · isplitl [Hs]; · iexact Hs
    isplitl [Hi]; · iexact Hi
    iexact HA
  isplitl [HR]; · iexact HR
  isplitl [Hr Ht HG]
  · isplitl [Hr]; · iexact Hr
    isplitl [Ht]; · iexact Ht
    iexact HG
  isplitl [Ho]; · iexact Ho
  isplitl [HB]; · iexact HB
  iexact Hir

end Chunk

end Cert.Proof.OnKernelIdeal
-- ==== Proof.AtIdeal.TileLoop.lean ====
/-
  A tile's whole task: four trips, each writing 3328 rows of the tile's 13312; after them the tile's piece of the result holds the
  rows of the table its piece of the list names. From it the launch's obligation for a tile.
-/
module

public import proofs.«01_k».proof.Proof.AtIdeal.ChunkBody

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.ValueIdx (ix1 ix2 eq_ix1 eq_ix2)

variable {F : FTy → Type}

local notation "𝕄" => MT nD τ sig (HIx 1) (Elt F) ℕ UU ℕ
local notation "tV" => (Memref.whole Cert.KernelIdeal.main_v7_scv : Memref Cert.KernelIdeal.sig Kind.scVector Space.hbm Cert.KernelIdeal.S2600000x16 EltTy.f32)
local notation "iV" => (Memref.whole Cert.KernelIdeal.main_v6_scv : Memref Cert.KernelIdeal.sig Kind.scVector Space.hbm Cert.KernelIdeal.S425984 EltTy.i32)
local notation "oV" => (Memref.whole Cert.KernelIdeal.main_v8_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S3328x16 EltTy.f32)

variable (ft : S2600000x16.Idx → Elt F .f32) (fi : S425984.Idx → BitVec 32)

/-! ## The value of a trip -/

/-- The rows of the result tile `(c, s)` writes. -/
def tileSet (c s : ℕ) : Finset S425984x16.Idx := Finset.univ.filter fun y => (y 0).val / 13312 = 2 * s + c

theorem mem_tileSet {c s : ℕ} {y : S425984x16.Idx} : y ∈ tileSet c s ↔ (y 0).val / 13312 = 2 * s + c := by
  simp [tileSet]

section Value

variable (L : grid0.Coords)

/-- The first row a trip writes. -/
def rowAt (t : ℕ) : ℕ := 26624 * (L 1).val + 13312 * (L 0).val + 3328 * t

theorem outAt_emb_zero (t : Fin k0_t1_loop.trips) (x : S3328x16.Idx) : ((outAt L t).view.emb x 0).val = rowAt L t.val + (x 0).val := by
  change (k0_off2 L t) (0 : Fin 2) + 1 * (x 0).val = _
  rw [k0_off2_eq]; simp [rowAt]

theorem outAt_emb_one (t : Fin k0_t1_loop.trips) (x : S3328x16.Idx) : (outAt L t).view.emb x 1 = x 1 := by
  apply Fin.ext
  change (k0_off2 L t) (1 : Fin 2) + 1 * (x 1).val = _
  rw [k0_off2_eq]; simp

theorem idxAt_emb_zero (t : Fin k0_t1_loop.trips) (x : S3328.Idx) : ((idxAt L t).view.emb x 0).val = rowAt L t.val + (x 0).val := by
  change (k0_off1 L t) (0 : Fin 1) + 1 * (x 0).val = _
  rw [k0_off1_eq]; simp [rowAt]

theorem mem_outAt (t : Fin k0_t1_loop.trips) (y : S425984x16.Idx) :
    y ∈ (outAt L t).view.set ↔ rowAt L t.val ≤ (y 0).val ∧ (y 0).val < rowAt L t.val + 3328 := by
  simp only [View.set, Finset.mem_map, Finset.mem_univ, true_and]
  constructor
  · rintro ⟨x, rfl⟩
    have hx : (x 0).val < 3328 := (x 0).isLt
    have e := outAt_emb_zero L t x
    constructor
    · exact e ▸ Nat.le_add_right _ _
    · exact e ▸ Nat.add_lt_add_left hx _
  · rintro ⟨h1, h2⟩
    refine ⟨ix2 ⟨(y 0).val - rowAt L t.val, by omega⟩ (y 1), ?_⟩
    funext a
    match a with
    | 0 => apply Fin.ext; exact (outAt_emb_zero L t _).trans (by change rowAt L t.val + ((y 0).val - rowAt L t.val) = _; omega)
    | 1 => exact outAt_emb_one L t _

theorem trips_four : k0_t1_loop.trips = 4 := by decide

theorem outAt_subset (t : Fin k0_t1_loop.trips) : (outAt L t).view.set ⊆ tileSet (L 0).val (L 1).val := by
  intro y hy
  have ht : t.val < 4 := lt_of_lt_of_eq t.isLt trips_four
  have := (mem_outAt L t y).1 hy
  unfold rowAt at this
  rw [mem_tileSet]; omega

/-- What the first `n` trips leave: their rows of the tile's piece hold the rows the list names. -/
def DoneTo (n : ℕ) (fo : S425984x16.Idx → Elt F .f32) : Prop :=
  ∀ y : S425984x16.Idx, rowAt L 0 ≤ (y 0).val → (y 0).val < rowAt L n → fo y = gathered ft fi y

variable [FloatOps F]

theorem stepOut_done (t : Fin k0_t1_loop.trips) (fo : S425984x16.Idx → Elt F .f32) (h : DoneTo ft fi L t.val fo) :
    DoneTo ft fi L (t.val + 1) (stepOut (L := L) ft fi t fo) := by
  intro y h1 h2
  by_cases hy : y ∈ (outAt L t).view.set
  · obtain ⟨x, rfl⟩ : ∃ x, (outAt L t).view.emb x = y := by simpa [View.set] using hy
    refine (View.write_emb_of_mem (v := (outAt L t).view) fo _ (Finset.mem_univ x)).trans ((cast_eq _ _).trans ?_)
    unfold rowsOf gathered
    have e : listOf L F fi t (ix1 (x 0)) = fi (ix1 ((outAt L t).view.emb x 0)) := by
      refine ((View.read_apply _ _).trans (cast_eq _ _)).trans (congrArg fi ?_)
      funext a
      match a with
      | 0 => exact Fin.ext ((idxAt_emb_zero L t _).trans (outAt_emb_zero L t x).symm)
    rw [e, outAt_emb_one]
  · refine (View.write_of_not_mem (v := (outAt L t).view) fo _ Finset.univ (by rwa [View.setOn_univ])).trans (h y h1 ?_)
    have := mt (mem_outAt L t y).2 hy
    unfold rowAt at *; omega

end Value

/-! ## The loop -/

section Tile

variable (d : Dev nD) (L : grid0.Coords) (q qi : PosShare TreeShare)
variable (O : CellTallies nD τ sig (HIx 1)) (W : Waits sig (HIx 1))

/-- What holds before trip `n`. -/
def Trip (n : ℕ) : sProp 𝕄 :=
  iprop(∃ fo, ⌜DoneTo ft fi L n fo⌝ ∗ Held d L q qi ft fi O W (tileSet (L 0).val (L 1).val) fo)

variable [FloatOps F]

theorem trip_run (hin : ∀ x, (fi x).toNat < 2600000) (t : Fin k0_t1_loop.trips) (v2 acc : BitVec 32) :
    Trip ft fi d L q qi O W t.val ⊢ wpV d L
      (k0_t1_body L tV (Memref.isWhole_whole _) iV (Memref.isWhole_whole _) oV (Memref.isWhole_whole _)
        sV (Memref.isWhole_whole _) rV (Memref.isWhole_whole _) cc0_scratch2 cc0_scoped0 cc0_scoped1 v2 t acc)
      fun _ => Trip ft fi d L q qi O W (t.val + 1) := by
  unfold Trip
  iintro ⟨%fo, %hfo, H⟩
  iapply (wp_wand_r frame (wpE (defs₀ (F := F)) 𝒱₀ (thr d L) none) Set.univ)
  isplitl [H]
  · iapply (body_run d q qi ft fi O W (tileSet (L 0).val (L 1).val) hin t v2 acc (outAt_subset L t) fo); iexact H
  · iintro %_ H
    iexists (stepOut (L := L) ft fi t fo)
    isplitr
    · ipureintro; exact stepOut_done ft fi L t fo hfo
    · iexact H

theorem loop_run (hin : ∀ x, (fi x).toNat < 2600000) (fo₀ : S425984x16.Idx → Elt F .f32) :
    Held d L q qi ft fi O W (tileSet (L 0).val (L 1).val) fo₀ ⊢ wpV d L
      (cc0_gather L tV (Memref.isWhole_whole _) iV (Memref.isWhole_whole _) oV (Memref.isWhole_whole _)
        sV (Memref.isWhole_whole _) rV (Memref.isWhole_whole _) cc0_scratch2 cc0_scoped0 cc0_scoped1)
      fun _ => Held d L q qi ft fi O W (tileSet (L 0).val (L 1).val) (gathered ft fi) := by
  rw [cc0_gather_eq_skeleton]; unfold cc0_gather_skel
  have h0 : Held d L q qi ft fi O W (tileSet (L 0).val (L 1).val) fo₀ ⊢ Trip ft fi d L q qi O W 0 := by
    iintro H; unfold Trip; iexists fo₀; isplitr
    · ipureintro; intro y h1 h2; exact absurd h2 (Nat.not_lt.mpr h1)
    · iexact H
  have h4 : Trip ft fi d L q qi O W k0_t1_loop.trips ⊢ Held d L q qi ft fi O W (tileSet (L 0).val (L 1).val) (gathered ft fi) := by
    unfold Trip
    iintro ⟨%fo, %hfo, H⟩
    have e : (((oV).view.loc (thr d L) ↦[tileSet (L 0).val (L 1).val]{fullShare} fo) : sProp 𝕄)
        = ((oV).view.loc (thr d L) ↦[tileSet (L 0).val (L 1).val]{fullShare} gathered ft fi) := pointsTo_congr fun y hy => by
      have hy' := mem_tileSet.1 hy
      refine hfo y ?_ ?_
      · unfold rowAt; omega
      · rw [trips_four]; unfold rowAt; omega
    have e' : Held d L q qi ft fi O W (tileSet (L 0).val (L 1).val) fo = Held d L q qi ft fi O W (tileSet (L 0).val (L 1).val) (gathered ft fi) := by
      unfold Held; rw [e]
    iapply (Entails.of_eq e'); iexact H
  iintro H
  iapply (Scf.wp_for_bind frame (wpE (defs₀ (F := F)) 𝒱₀ (thr d L) none) Set.univ _ _ _ k0_t1_ok 0#32 _
    (fun n _ => Trip ft fi d L q qi O W n) (fun t acc => trip_run ft fi d L q qi O W hin t _ acc)) $$ [H]
  · iapply h0; iexact H
  · iintro %acc H
    sl_step
    iapply h4; iexact H

end Tile

end Cert.Proof.OnKernelIdeal

end
-- ==== Proof.AtIdeal.TilePay.lean ====
/-
  What the gather's launch hands each SparseCore and each tile, and what it gets back: read shares of the table and of the list, the
  tile's own rows of the result. The launch's obligation for a tile from the tile's task; the split of a SparseCore's part.
-/
module

public import proofs.«01_k».proof.Proof.AtIdeal.TileLoop

@[expose] public section

noncomputable section

namespace Cert.Proof.OnKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch
open Idealize.ShloMosaic.ValueIdx (ix1 ix2 eq_ix1 eq_ix2)

variable {F : FTy → Type}

local notation "𝕄" => MT nD τ sig (HIx 1) (Elt F) ℕ UU ℕ
local notation "tV" => (Memref.whole Cert.KernelIdeal.main_v7_scv : Memref Cert.KernelIdeal.sig Kind.scVector Space.hbm Cert.KernelIdeal.S2600000x16 EltTy.f32)
local notation "iV" => (Memref.whole Cert.KernelIdeal.main_v6_scv : Memref Cert.KernelIdeal.sig Kind.scVector Space.hbm Cert.KernelIdeal.S425984 EltTy.i32)
local notation "oV" => (Memref.whole Cert.KernelIdeal.main_v8_scv : Memref Cert.KernelIdeal.sig Kind.scVector Space.hbm Cert.KernelIdeal.S425984x16 EltTy.f32)
local notation "sV" => (Memref.whole Cert.KernelIdeal.cc0_scratch0 : Memref Cert.KernelIdeal.sig Kind.scVector Space.vmem Cert.KernelIdeal.S3328 EltTy.i32)
local notation "rV" => (Memref.whole Cert.KernelIdeal.cc0_scratch1 : Memref Cert.KernelIdeal.sig Kind.scVector Space.vmem Cert.KernelIdeal.S3328x16 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev D [FloatOps F] : Defs nD τ sig (Elt F) (ΛP (F := F)) := Pipeline.defs pcfgs defs₀

abbrev EH : Emb UH (MT nD τ sig (HIx 1) (Elt F) ℕ UU ℕ) := embL

abbrev tLoc (d : Dev nD) : Loc nD τ sig := (SparseCore.T d).loc main_v7
abbrev iLoc (d : Dev nD) : Loc nD τ sig := (SparseCore.T d).loc main_v6
abbrev oLoc (d : Dev nD) : Loc nD τ sig := (SparseCore.T d).loc main_v8

theorem nCore_zero : (K (F := F)).nCore 0 = 2 := rfl

/-! ## The parts -/

abbrev shC (c : Fin 2) : PosShare TreeShare := pieceOf fullShare 2 (by decide) c
abbrev shT (c : Fin 2) (i : Fin 16) : PosShare TreeShare := pieceOf (shC c) 16 (by decide) i

/-- The rows of the result a SparseCore's tiles write. -/
def coreSet (c : ℕ) : Finset S425984x16.Idx := Finset.univ.filter fun y => (y 0).val / 13312 % 2 = c

theorem mem_coreSet {c : ℕ} {y : S425984x16.Idx} : y ∈ coreSet c ↔ (y 0).val / 13312 % 2 = c := by simp [coreSet]

theorem tileSet_disjoint (c : Fin 2) : ∀ i ∈ (Finset.univ : Finset (Fin 16)), ∀ j ∈ (Finset.univ : Finset (Fin 16)), i ≠ j →
    Disjoint (tileSet c.val i.val) (tileSet c.val j.val) := fun i _ j _ h => Finset.disjoint_left.2 fun y hy hy' => by
  rw [mem_tileSet] at hy hy'
  exact h (Fin.ext (by omega))

theorem biUnion_tileSet (c : Fin 2) : (Finset.univ : Finset (Fin 16)).biUnion (fun i => tileSet c.val i.val) = coreSet c.val := by
  ext y
  have hy : (y 0).val < 425984 := (y 0).isLt
  have hc := c.isLt
  simp only [Finset.mem_biUnion, Finset.mem_univ, true_and, mem_tileSet, mem_coreSet]
  constructor
  · rintro ⟨i, h⟩; omega
  · intro h; exact ⟨⟨(y 0).val / 13312 / 2, by omega⟩, by change _ = 2 * ((y 0).val / 13312 / 2) + c.val; omega⟩

theorem coreSet_disjoint : ∀ i ∈ (Finset.univ : Finset (Fin 2)), ∀ j ∈ (Finset.univ : Finset (Fin 2)), i ≠ j →
    Disjoint (coreSet i.val) (coreSet j.val) := fun i _ j _ h => Finset.disjoint_left.2 fun y hy hy' => by
  rw [mem_coreSet] at hy hy'
  exact h (Fin.ext (by omega))

theorem biUnion_coreSet : (Finset.univ : Finset (Fin 2)).biUnion (fun i => coreSet i.val) = Finset.univ := by
  ext y
  simp only [Finset.mem_biUnion, Finset.mem_univ, true_and, mem_coreSet, iff_true]
  exact ⟨⟨(y 0).val / 13312 % 2, Nat.mod_lt _ (by decide)⟩, rfl⟩

variable (ft : Dev nD → S2600000x16.Idx → Elt F .f32) (fi : Dev nD → S425984.Idx → BitVec 32) (fo : Dev nD → S425984x16.Idx → Elt F .f32)

/-- The call's operands: the table, the list, the result at `f`. -/
def callRes (d : Dev nD) (f : S425984x16.Idx → Elt F .f32) : sProp 𝕄 :=
  iprop((tLoc d ↦{fullShare} ft d) ∗ (iLoc d ↦{fullShare} fi d) ∗ (oLoc d ↦{fullShare} f))
/-- A SparseCore's part of them. -/
def coreRes (d : Dev nD) (c : Fin 2) (f : S425984x16.Idx → Elt F .f32) : sProp 𝕄 :=
  iprop((tLoc d ↦{shC c} ft d) ∗ (iLoc d ↦{shC c} fi d) ∗ (oLoc d ↦[coreSet c.val]{fullShare} f))
/-- A tile's part. -/
def tileRes (d : Dev nD) (c : Fin 2) (i : Fin 16) (f : S425984x16.Idx → Elt F .f32) : sProp 𝕄 :=
  iprop((tLoc d ↦{shT c i} ft d) ∗ (iLoc d ↦{shT c i} fi d) ∗ (oLoc d ↦[tileSet c.val i.val]{fullShare} f))

instance coreRes_storable (d : Dev nD) (c : Fin 2) (f : S425984x16.Idx → Elt F .f32) : BI.Storable (upEmb : UEmb _ 𝕄) (coreRes ft fi d c f) := by
  unfold coreRes; infer_instance
instance tileRes_storable (d : Dev nD) (c : Fin 2) (i : Fin 16) (f : S425984x16.Idx → Elt F .f32) : BI.Storable (upEmb : UEmb _ 𝕄) (tileRes ft fi d c i f) := by
  unfold tileRes; infer_instance

theorem coreRes_tiles (d : Dev nD) (c : Fin 2) (f : S425984x16.Idx → Elt F .f32) :
    coreRes ft fi d c f = bigSep Finset.univ fun i : Fin 16 => tileRes ft fi d c i f := by
  unfold coreRes tileRes
  rw [bigSep_sep', bigSep_sep', ← pointsTo_piecesOf, ← pointsTo_piecesOf, ← biUnion_tileSet,
    pointsTo_biUnion (Val := Elt F) (ℓ := oLoc d) Finset.univ (fun i : Fin 16 => tileSet c.val i.val) (tileSet_disjoint c)]

theorem callRes_cores (d : Dev nD) (f : S425984x16.Idx → Elt F .f32) :
    callRes ft fi d f = bigSep Finset.univ fun c : Fin 2 => coreRes ft fi d c f := by
  have e : ((oLoc d ↦{fullShare} f) : sProp 𝕄) = bigSep Finset.univ fun c : Fin 2 => (oLoc d ↦[coreSet c.val]{fullShare} f : sProp 𝕄) := by
    rw [← pointsTo_biUnion (Val := Elt F) (ℓ := oLoc d) Finset.univ (fun c : Fin 2 => coreSet c.val) coreSet_disjoint, biUnion_coreSet]
  unfold callRes coreRes
  rw [e, bigSep_sep', bigSep_sep', ← pointsTo_piecesOf, ← pointsTo_piecesOf]

/-- What the handshakes carry: each part with the result as it was, and back with the rows gathered. -/
def P : (K (F := F)).Pay (nD := nD) (Val := Elt F) (Name := ℕ) (U := UU) where
  st := fun q d c => match q with | 0 => coreRes ft fi d (Fin.cast nCore_zero c) (fo d)
  dn := fun q d c => match q with | 0 => coreRes ft fi d (Fin.cast nCore_zero c) (gathered (ft d) (fi d))
  go := fun q d c i => match q with | 0 => tileRes ft fi d (Fin.cast nCore_zero c) (Fin.cast nSub_zero i) (fo d)
  td := fun q d c i => match q with | 0 => tileRes ft fi d (Fin.cast nCore_zero c) (Fin.cast nSub_zero i) (gathered (ft d) (fi d))
  x := fun _ _ => iprop(emp)

instance P_storable : (P ft fi fo).IsStorable where
  st q d c := match q with | 0 => coreRes_storable ft fi d (Fin.cast nCore_zero c) (fo d)
  dn q d c := match q with | 0 => coreRes_storable ft fi d (Fin.cast nCore_zero c) (gathered (ft d) (fi d))
  go q d c i := match q with | 0 => tileRes_storable ft fi d (Fin.cast nCore_zero c) (Fin.cast nSub_zero i) (fo d)
  td q d c i := match q with | 0 => tileRes_storable ft fi d (Fin.cast nCore_zero c) (Fin.cast nSub_zero i) (gathered (ft d) (fi d))

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P ft fi fo) 0 := by
  intro d c
  show coreRes ft fi d (Fin.cast nCore_zero c) (fo d) ⊢ |={Set.univ}=> iprop(
      (bigSep Finset.univ fun i : Fin ((K (F := F)).nSub 0) => tileRes ft fi d (Fin.cast nCore_zero c) (Fin.cast nSub_zero i) (fo d))
      ∗ ((bigSep Finset.univ fun i : Fin ((K (F := F)).nSub 0) => tileRes ft fi d (Fin.cast nCore_zero c) (Fin.cast nSub_zero i) (gathered (ft d) (fi d)))
          -∗ coreRes ft fi d (Fin.cast nCore_zero c) (gathered (ft d) (fi d))))
  rw [bigSep_tiles (fun i => tileRes ft fi d (Fin.cast nCore_zero c) i (fo d)),
    bigSep_tiles (fun i => tileRes ft fi d (Fin.cast nCore_zero c) i (gathered (ft d) (fi d))), ← coreRes_tiles, ← coreRes_tiles]
  iintro H; imodintro
  isplitl [H]; · iexact H
  iintro H; iexact H

theorem st_eq (d : Dev nD) : (bigSep Finset.univ fun c : Fin ((K (F := F)).nCore 0) => (P ft fi fo).st 0 d c) = callRes ft fi d (fo d) :=
  (bigSep_cores (fun c => coreRes ft fi d c (fo d))).trans (callRes_cores ft fi d (fo d)).symm
theorem dn_eq (d : Dev nD) : (bigSep Finset.univ fun c : Fin ((K (F := F)).nCore 0) => (P ft fi fo).dn 0 d c) = callRes ft fi d (gathered (ft d) (fi d)) :=
  (bigSep_cores (fun c => coreRes ft fi d c (gathered (ft d) (fi d)))).trans (callRes_cores ft fi d (gathered (ft d) (fi d))).symm

/-! ## A tile's task -/

section Tile

variable (d : Dev nD) (L : grid0.Coords)

abbrev cL (L : grid0.Coords) : Fin 2 := L 0
abbrev iL (L : grid0.Coords) : Fin 16 := L 1

abbrev cellG : GSem nD τ sig := (thr d L, .dma cc0_scratch2.sem)
abbrev cellA : GSem nD τ sig := (thr d L, .dma cc0_scoped0.sem)
abbrev cellB : GSem nD τ sig := (thr d L, .dma cc0_scoped1.sem)

theorem ownSems0_V : ∃ R : sProp 𝕄, (ownSems0 (thr d L) : sProp 𝕄) = iprop(semVal (cellA d L) 0 ∗ semVal (cellB d L) 0 ∗ semVal (cellG d L) 0 ∗ R) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped1.sem : SemLoc sig).isScoped .scVector = true; decide⟩⟩),
    SparseCore.bigSep_erase' (Finset.mem_erase.mpr ⟨by simp [cellB, cellG]; decide, Finset.mem_erase.mpr ⟨by simp [cellA, cellG]; decide,
      (mem_ownCells (g := cellG d L)).mpr ⟨rfl, by show (SemLoc.dma cc0_scratch2.sem : SemLoc sig).isScoped .scVector = true; decide⟩⟩⟩)]
  exact ⟨_, rfl⟩

theorem ownBufs_V : ∃ R : sProp 𝕄, (ownBufs (thr d L) : sProp 𝕄)
      = iprop((∃ f, (sV).view.loc (thr d L) ↦{fullShare} f) ∗ (∃ f, (rV).view.loc (thr d L) ↦{fullShare} f) ∗ R) := by
  have e1 := SparseCore.bigSep_erase' (Φ := fun b : DevRef τ sig => (iprop(∃ f, ((d, b) : Loc nD τ sig) ↦{fullShare} f) : sProp 𝕄))
    (SparseCore.Cfg.mem_ownRefs_of_owner (p := Proc.scVector (cV L) (jV L)) (b := (Proc.scVector (cV L) (jV L)).devRef cc0_scratch0) rfl)
  have e2 := SparseCore.bigSep_erase' (Φ := fun b : DevRef τ sig => (iprop(∃ f, ((d, b) : Loc nD τ sig) ↦{fullShare} f) : sProp 𝕄))
    (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)
  rw [e2] at e1
  exact ⟨_, e1⟩

variable [FloatOps F]

theorem tile_body (hF : (K (F := F)).Facts) (hin : ∀ d x, (fi d x).toNat < 2600000) (O : CellTallies nD τ sig (HIx 1)) (W : Waits sig (HIx 1))
    (hO : ∀ g, O g none = 0) :
    iprop(levAts (K (F := F)).L (K (F := F)).lev ∗ emp ∗ tileRes ft fi d (cL L) (iL L) (fo d)
        ∗ scopedBufs (thr d L) ∗ scopedSems0 (thr d L) ∗ owes (thr d L) O W)
      ⊢ wpV d L (cc0_gather L tV (Memref.isWhole_whole _) iV (Memref.isWhole_whole _) oV (Memref.isWhole_whole _)
          sV (Memref.isWhole_whole _) rV (Memref.isWhole_whole _) cc0_scratch2 cc0_scoped0 cc0_scoped1)
          fun _ => iprop(tileRes ft fi d (cL L) (iL L) (gathered (ft d) (fi d)) ∗ scopedBufs (thr d L) ∗ scopedSems0 (thr d L)
            ∗ ∃ W', ⌜∀ p ∈ W', p ∈ W ∨ p.2 = none⌝ ∗ owes (thr d L) O W') := by
  have hres : ∀ f, tileRes ft fi d (cL L) (iL L) f = iprop(((tV).view.loc (thr d L) ↦{shT (cL L) (iL L)} ft d) ∗ ((iV).view.loc (thr d L) ↦{shT (cL L) (iL L)} fi d)
      ∗ ((oV).view.loc (thr d L) ↦[tileSet (L 0).val (L 1).val]{fullShare} f)) := fun _ => rfl
  rw [hres, hres]
  obtain ⟨RB, hRB⟩ := ownBufs_V (F := F) d L
  obtain ⟨RS, hRS⟩ := ownSems0_V (F := F) d L
  rw [(K (F := F)).scopedBufs_V hF d (cV L) (jV L), SparseCore.Cfg.scopedSems0_V (Val := Elt F) d (cV L) (jV L), hRB, hRS]
  iintro ⟨#Hlv, -, Hres, ⟨Hs, Hr, HRB⟩, ⟨HA, HB, HG, HRS⟩, HO⟩
  ihave Hmw := (show levAts (K (F := F)).L (K (F := F)).lev ⊢ Transfers.MayWaits (thr d L) (default : HIx 1) O from
    (K (F := F)).mayWaits_none (thr := thr d L) hO) $$ Hlv
  icases Hres with ⟨Ht, Hi, Ho⟩
  iapply (wp_wand_r frame (wpE (defs₀ (F := F)) 𝒱₀ (thr d L) none) Set.univ)
  isplitl [Hmw Hs Hr HA HB HG HO Ht Hi Ho]
  · iapply (loop_run (ft d) (fi d) d L (shT (cL L) (iL L)) (shT (cL L) (iL L)) O W (hin d) (fo d))
    unfold Held Riding Owing
    isplitl [Hi]; · iexact Hi
    isplitl [Ht]; · iexact Ht
    isplitl [Hs]; · iexact Hs
    isplitl [Hr]; · iexact Hr
    isplitl [HA]; · iexact HA
    isplitl [HB]; · iexact HB
    isplitl [HG]; · iexact HG
    isplitl [Ho]; · iexact Ho
    isplitl [Hmw]; · iexact Hmw
    iexists W
    isplitr
    · ipureintro; exact fun p hp => Or.inl hp
    · iexact HO
  · iintro %_ H
    unfold Held Riding Owing
    icases H with ⟨Hi, Ht, Hs, Hr, HA, HB, HG, Ho, Hmw, HO⟩
    isplitl [Hi Ht Ho]
    · isplitl [Ht]; · iexact Ht
      isplitl [Hi]; · iexact Hi
      iexact Ho
    isplitl [Hs Hr HRB]
    · isplitl [Hs]; · iexact Hs
      isplitl [Hr]; · iexact Hr
      iexact HRB
    isplitl [HA HB HG HRS]
    · isplitl [HA]; · iexact HA
      isplitl [HB]; · iexact HB
      isplitl [HG]; · iexact HG
      iexact HRS
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d x, (fi d x).toNat < 2600000) : (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ft fi fo d (coordsV ⟨_, hci.1⟩ ⟨_, hci.2⟩) hF hin O W hO).trans (wp_mono frame _ _ fun _ => obl_post)

end Tile

end Cert.Proof.OnKernelIdeal

end
-- ==== Proof.AtIdeal.TcBody.lean ====
/-
  One grid point of the dense kernel's body: from the ten staging buffers held whole, the body leaves the nine inputs as they were and in
  the tenth the value it computes of what the nine hold.
-/
module

public import proofs.«01_k».proof.Proof.AtIdeal.TilePay
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.VecWindow
public import Idealize.ShloMosaic.Lib.Tactic

@[expose] public section

noncomputable section

namespace Cert.Proof.OnKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type}

local notation "𝕄" => MT nD τ sig (HIx 1) (Elt F) ℕ UU ℕ

variable [FloatOps F]

set_option maxHeartbeats 4000000 in
/-- One run of the body, its nine inputs holding `x0 … x8`. -/
theorem dense_run (c : Dev nD) (i : grid1.Coords)
    (M0 : Memref sig .tc .vmem S1024x416 .f32) (h0 : M0.IsWhole) (M1 : Memref sig .tc .vmem S1024x13 .f32) (h1 : M1.IsWhole)
    (M2 : Memref sig .tc .vmem S416x256 .f32) (h2 : M2.IsWhole) (M3 : Memref sig .tc .vmem S13x256 .f32) (h3 : M3.IsWhole)
    (M4 : Memref sig .tc .vmem S1x256 .f32) (h4 : M4.IsWhole) (M5 : Memref sig .tc .vmem S256x128 .f32) (h5 : M5.IsWhole)
    (M6 : Memref sig .tc .vmem S1x128 .f32) (h6 : M6.IsWhole) (M7 : Memref sig .tc .vmem S128x1 .f32) (h7 : M7.IsWhole)
    (M8 : Memref sig .tc .vmem S1x1 .f32) (h8 : M8.IsWhole) (M9 : Memref sig .tc .vmem S1024x1 .f32) (h9 : M9.IsWhole)
    (x0 : S1024x416.Idx → Elt F .f32) (x1 : S1024x13.Idx → Elt F .f32) (x2 : S416x256.Idx → Elt F .f32) (x3 : S13x256.Idx → Elt F .f32) (x4 : S1x256.Idx → Elt F .f32)
    (x5 : S256x128.Idx → Elt F .f32) (x6 : S1x128.Idx → Elt F .f32) (x7 : S128x1.Idx → Elt F .f32) (x8 : S1x1.Idx → Elt F .f32) (x9 : S1024x1.Idx → Elt F .f32)
    (Q : PUnit → sProp 𝕄) :
    iprop(owns c M0 fullShare x0 ∗ owns c M1 fullShare x1 ∗ owns c M2 fullShare x2 ∗ owns c M3 fullShare x3 ∗ owns c M4 fullShare x4
        ∗ owns c M5 fullShare x5 ∗ owns c M6 fullShare x6 ∗ owns c M7 fullShare x7 ∗ owns c M8 fullShare x8 ∗ owns c M9 fullShare x9
        ∗ ((owns c M0 fullShare x0 ∗ owns c M1 fullShare x1 ∗ owns c M2 fullShare x2 ∗ owns c M3 fullShare x3
          ∗ owns c M4 fullShare x4 ∗ owns c M5 fullShare x5 ∗ owns c M6 fullShare x6 ∗ owns c M7 fullShare x7 ∗ owns c M8 fullShare x8
          ∗ owns c M9 fullShare (k1_pay1 x0 x2 x1 x3 x4 x5 x6 x7 x8)) -∗ Q ⟨⟩))
      ⊢ wp frame (wpE (defs₀ (F := F)) 𝒱₀ c none) Set.univ (cc1_body i M0 h0 M1 h1 M2 h2 M3 h3 M4 h4 M5 h5 M6 h6 M7 h7 M8 h8 M9 h9) Q := by
  rw [cc1_body_eq_skeleton]; unfold cc1_body_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, -, H9⟩, Hk⟩
  subst e0
  subst e1
  subst e2
  subst e3
  subst e4
  subst e5
  subst e6
  subst e7
  subst e8
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  iexists _
  isplitr
  swap
  · iexact H9
  ipureintro
  have hz : (![0, 0] : Fin 2 → ℕ) = fun _ => 0 := by funext a; fin_cases a <;> rfl
  sl_unfold_words
  rw [View.read_writes_full]
  congr 1 <;> exact View.ld_unit_zero hz _ _

end Cert.Proof.OnKernelIdeal
-- ==== Proof.AtIdeal.TcRegion.lean ====
/-
  The dense kernel's region: entered with every array of the device held at a valuation, left with the same valuation but at the
  kernel's result, whose block of 1024 rows at each grid point is what the body computes there.
-/
module

public import proofs.«01_k».proof.Proof.AtIdeal.TcBody

@[expose] public section

noncomputable section

namespace Cert.Proof.OnKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type}

local notation "𝕄" => MT nD τ sig (HIx 1) (Elt F) ℕ UU ℕ

variable [FloatOps F]
variable (V : (c : Dev nD) → (b : Ref sig .tc) → Buf (Elt F) ((c : Thread nD τ).loc b))

/-- Window `w`'s block at point `t`, of its array at the entry valuation. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body computes at point `t`. -/
def outBlk (c : Dev nD) (t : Fin cfg1.N) : S1024x1.Idx → Elt F .f32 :=
  k1_pay1 (iblk V c 0 t) (iblk V c 2 t) (iblk V c 1 t) (iblk V c 3 t) (iblk V c 4 t) (iblk V c 5 t) (iblk V c 6 t) (iblk V c 7 t) (iblk V c 8 t)

/-- The scoped buffers no window stages. -/
abbrev Φc (c : Dev nD) : sProp 𝕄 := Pipeline.scopedRest (Ix := HIx 1) (Name := ℕ) (U := UU) (Lvl := ℕ) (Val := Elt F) spec1 c

/-- The pairs a wait may have recorded: those no higher than the gather's launch. -/
abbrev lowPairs (c : Dev nD) : Set (SemLoc sig × HIx 1) := {p | (K (F := F)).lev ((c : Thread nD τ), p.1) p.2 ≤ 8}

/-- The region's proof data from the valuation `V`. -/
def dat (c : Dev nD) : Dat τ (Elt F) (HIx 1) ℕ UU ℕ cfg1 c where
  A w := V c (Pipeline.arrRef spec1 w)
  after w t := match w with
    | ⟨9, _⟩ => outBlk V c t
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
  Φ _ := Φc c
  q _ := fullShare
  owed _ := 0
  recorded _ := lowPairs (F := F) c

/-- An input's staging buffer holds its block when the body runs. -/
theorem before_input (c : Dev nD) (w : Fin cfg1.W) (hw : (cfg1.win w).isOut = false)
    (hcut : ∀ t, (cfg1.win w).cut (cfg1.grid.coords t) ((dat V c).after w t) = (dat V c).blockOf w t)
    (hfet : ∀ t d, (dat V c).fetched w t d = (dat V c).after w t) (t : Fin cfg1.N) (d : (cfg1.win w).block.Idx → Elt F (cfg1.win w).elt) :
    (dat V c).before w t d = (dat V c).after w t :=
  ((dat V c).before_in_eq_fetched w hw (fun _ => rfl) (fun _ _ _ => by fin_cases w <;> rfl) hcut t d).trans (hfet t d)

set_option maxHeartbeats 2000000 in
theorem body_obligation (c : Dev nD) : BodyObligation (dat V c) (defs₀ (F := F)) 𝒱₀ (none : HIx 1) Set.univ := fun t => by
  rw [bigSep_W1, bigSep_W1]
  have e0 : ∀ d, (dat V c).before 0 t d = iblk V c 0 t := before_input V c 0 rfl (fun _ => rfl) (fun _ _ => rfl) t
  have e1 : ∀ d, (dat V c).before 1 t d = iblk V c 1 t := before_input V c 1 rfl (fun _ => rfl) (fun _ _ => rfl) t
  have e2 : ∀ d, (dat V c).before 2 t d = iblk V c 2 t := before_input V c 2 rfl (fun _ => rfl) (fun _ _ => rfl) t
  have e3 : ∀ d, (dat V c).before 3 t d = iblk V c 3 t := before_input V c 3 rfl (fun _ => rfl) (fun _ _ => rfl) t
  have e4 : ∀ d, (dat V c).before 4 t d = iblk V c 4 t := before_input V c 4 rfl (fun _ => rfl) (fun _ _ => rfl) t
  have e5 : ∀ d, (dat V c).before 5 t d = iblk V c 5 t := before_input V c 5 rfl (fun _ => rfl) (fun _ _ => rfl) t
  have e6 : ∀ d, (dat V c).before 6 t d = iblk V c 6 t := before_input V c 6 rfl (fun _ => rfl) (fun _ _ => rfl) t
  have e7 : ∀ d, (dat V c).before 7 t d = iblk V c 7 t := before_input V c 7 rfl (fun _ => rfl) (fun _ _ => rfl) t
  have e8 : ∀ d, (dat V c).before 8 t d = iblk V c 8 t := before_input V c 8 rfl (fun _ => rfl) (fun _ _ => rfl) t
  rw [show (dat V c).Φ t.castSucc = Φc c from rfl, show (dat V c).Φ t.succ = Φc c from rfl,
    show (dat V c).owesAt (none : HIx 1) t.succ = (dat V c).owesAt (none : HIx 1) t.castSucc from rfl]
  simp only [e0, e1, e2, e3, e4, e5, e6, e7, e8]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (dense_run (F := F) c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9))
    (iblk V c 0 t) (iblk V c 1 t) (iblk V c 2 t) (iblk V c 3 t)
    (iblk V c 4 t) (iblk V c 5 t) (iblk V c 6 t) (iblk V c 7 t) (iblk V c 8 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.OnKernelIdeal
-- ==== Proof.AtIdeal.TcSeg.lean ====
/-
  The dense kernel's region as a segment of the program, and what its result array ends with.
-/
module

public import proofs.«01_k».proof.Proof.AtIdeal.TcRegion
public import Idealize.ShloMosaic.Lib.Pipeline.RegionsLoop

@[expose] public section

noncomputable section

namespace Cert.Proof.OnKernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type}

local notation "𝕄" => MT nD τ sig (HIx 1) (Elt F) ℕ UU ℕ

variable [FloatOps F]
omit [FloatOps F] in
theorem input_of_ne : ∀ w : Fin 10, w ≠ 9 → (cfg1.win w).isOut = false := by
  intro w hw
  fin_cases w <;> first | rfl | exact (hw rfl).elim

theorem arrRef_ne : ∀ w : Fin 10, w ≠ 9 → Pipeline.arrRef spec1 w ≠ main_v15 := by decide

variable (V : (c : Dev nD) → (b : Ref sig .tc) → Buf (Elt F) ((c : Thread nD τ).loc b))

abbrev adm (p : Fin 1) : (pcfgs (F := F) p).Adm := (cfgs p).toPCfg_adm

/-- The one region's proof data, as the library's family. -/
def pdats : (p : Fin 1) → (c : Dev nD) → Dat τ (Elt F) (HIx 1) ℕ UU ℕ (Pipeline.pin (pcfgs (F := F)) adm p) c
  | ⟨0, _⟩ => fun c => dat V c

/-- What the thread's waits have recorded, with nothing left to pay. -/
def lowOwes (c : Dev nD) : sProp 𝕄 :=
  iprop(∃ W, ⌜(K (F := F)).WBelow (c : Thread nD τ) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The region from the valuation `V` to the valuation `Vp`, which is `V` but at the result. -/
def reg (hout : ∀ c, Vp c main_v15 = (dat V c).arrAt 9 cfg1.N)
    (hne : ∀ c (b : Ref sig .tc), b ≠ main_v15 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ lowOwes c)
  post c := iprop(unscopedBufs c (Vp c) ∗ lowOwes c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    unfold lowOwes Pipeline.Dat.owesAt Pipeline.owesWithin Pipeline.prefHeld
    rw [show (Finset.univ : Finset (Fin 0)) = ∅ from rfl, BI.bigSep_empty]
    iintro ⟨⟨Hub, %W, %hW, HO⟩, -, -⟩
    ihave H := hsplit $$ Hub
    icases H with ⟨Ha, Hrest⟩
    imodintro
    isplitl [Ha]; · iexact Ha
    isplitr; · iempintro
    isplitl [HO]
    · iexists W
      isplitr
      · ipureintro; exact fun p hp => Or.inl (hW p hp)
      · iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (pdats V) ((pdats V 0 c).share_full fun _ => rfl) (V c) (Vp c) ((pdats V 0 c).arrAt · cfg1.N)
      (fun w => by
        by_cases hw : w = 9
        · subst hw; exact (hout c).symm
        · refine ((pdats V 0 c).arrAt_in w ?_ _).trans (hne c _ ?_).symm
          · exact input_of_ne w hw
          · exact arrRef_ne w hw)
      (fun b hb => hne c b fun h => hb (h ▸ Finset.mem_image.mpr ⟨9, Finset.mem_univ _, rfl⟩))
    unfold lowOwes Pipeline.Dat.owesAt Pipeline.owesWithin
    iintro ⟨Ha, ⟨%W, %hW, HO⟩, -, Hrest⟩
    imodintro
    isplitl [Ha Hrest]
    · iapply hjoin; isplitl [Ha] <;> iassumption
    iexists W
    isplitr
    · ipureintro
      intro p hp
      rcases hW hp with h | ⟨w, s, rfl⟩
      · exact h
      · exact Nat.zero_le _
    · iexact HO

end Cert.Proof.OnKernelIdeal
-- ==== Proof.AtIdeal.TcOut.lean ====
/-
  What the dense kernel's result array ends with: row `r` is row `r % 1024` of what the body computes at grid point `r / 1024`.
-/
module

public import proofs.«01_k».proof.Proof.AtIdeal.TcSeg

@[expose] public section

noncomputable section

namespace Cert.Proof.OnKernelIdeal

open Cert.KernelIdeal Cert.KernelIdeal.Gen

open Idealize.ShloMosaic
open Idealize.ShloMosaic.TcCoe
open Idealize.ShloMosaic.SparseCore.Cfg (HIx)
open Idealize.ShloMosaic.Pipeline (Dat Cfg Window)
open Idealize.ShloMosaic.ValueIdx (ix1 ix2 eq_ix1 eq_ix2)

variable {F : FTy → Type} [FloatOps F]
variable (V : (c : Dev nD) → (b : Ref sig .tc) → Buf (Elt F) ((c : Thread nD τ).loc b))

/-- The grid point whose block holds row `x`. -/
def ptOf (x : S16384x1.Idx) : Fin cfg1.N := ⟨(x 0 : Nat) / 1024, by
  have h : (x 0 : Nat) < 16384 := (x 0).isLt
  have hN : cfg1.N = 16 := N_1
  omega⟩

/-- The row's place inside that block. -/
def inBlk (x : S16384x1.Idx) : S1024x1.Idx := ix2 ⟨(x 0 : Nat) % 1024, Nat.mod_lt _ (by decide)⟩ (x 1)

/-- The result array after the region. -/
def outArr (c : Dev nD) : S16384x1.Idx → Elt F .f32 := fun x => outBlk V c (ptOf x) (inBlk x)

theorem coord_val : ∀ t : Fin grid1.N, (grid1.coords t 0 : Nat) = t.val := by decide

theorem index9 : ∀ t : Fin grid1.N, win1_9.index t 0 = t.val ∧ win1_9.index t 1 = 0 := by decide

theorem emb9 (t : Fin cfg1.N) (y : S1024x1.Idx) :
    ((win1_9.rect t).emb y 0 : Nat) = t.val * 1024 + (y 0 : Nat) ∧ ((win1_9.rect t).emb y 1 : Nat) = (y 1 : Nat) := by
  refine ⟨(win1_9.rect_emb_val t y 0).trans ?_, (win1_9.rect_emb_val t y 1).trans ?_⟩
  · rw [(index9 t).1]; rfl
  · rw [(index9 t).2, Nat.zero_mul, Nat.zero_add]

theorem flushed9 (c : Dev nD) (t : Fin cfg1.N) :
    (dat V c).flushed 9 t = ((cfg1.win 9).blk t).view.read (Elt F) (outArr V c) := by
  funext y
  show outBlk V c t y = outBlk V c (ptOf ((win1_9.rect t).emb y)) (inBlk ((win1_9.rect t).emb y))
  have hy : (y (0 : Fin 2) : Nat) < 1024 := (y 0).isLt
  obtain ⟨h0, h1⟩ := emb9 t y
  congr 1
  · apply Fin.ext
    show t.val = ((win1_9.rect t).emb y 0 : Nat) / 1024
    rw [h0]; omega
  · funext a
    apply Fin.ext
    match a with
    | ⟨0, _⟩ =>
      show (y 0 : Nat) = ((win1_9.rect t).emb y 0 : Nat) % 1024
      rw [h0]; omega
    | ⟨1, _⟩ => exact h1.symm

theorem cover9 (x : S16384x1.Idx) : ∃ t : Fin cfg1.N, (cfg1.win 9).flush t = true ∧ x ∈ ((cfg1.win 9).blk t).view.set := by
  refine ⟨ptOf x, flush1_9 _, ?_⟩
  have e : ((cfg1.win 9).blk (ptOf x)).view.emb (inBlk x) = x := by
    obtain ⟨h0, h1⟩ := emb9 (ptOf x) (inBlk x)
    funext a
    apply Fin.ext
    match a with
    | ⟨0, _⟩ =>
      refine h0.trans ?_
      show (x 0 : Nat) / 1024 * 1024 + (x 0 : Nat) % 1024 = (x 0 : Nat)
      omega
    | ⟨1, _⟩ => exact h1
  have h := ((cfg1.win 9).blk (ptOf x)).view.emb_mem_set (inBlk x)
  rwa [e] at h

theorem arrAt9 (c : Dev nD) : (dat V c).arrAt 9 cfg1.N = outArr V c :=
  (dat V c).arrAt_eq_of_cover 9 (outArr V c) (fun t _ => flushed9 V c t) cover9

end Cert.Proof.OnKernelIdeal
-- ==== Proof.AtIdeal.HostSide.lean ====
/-
  The program's host side: the array operations before the gather and between the gather and the dense kernel, and what every array of
  the device holds at each stage.
-/
module

public import proofs.«01_k».proof.Proof.AtIdeal.TcOut
public import Idealize.ShloMosaic.Lib.StableHlo.Run

@[expose] public section

noncomputable section

namespace Cert.Proof.OnKernelIdeal

open Cert.KernelIdeal Cert.KernelIdeal.Gen

open Idealize.ShloMosaic
open Idealize.ShloMosaic.TcCoe
open Idealize.ShloMosaic.SparseCore.Cfg (HIx)
open Idealize.SL Idealize.SL.Sem
open Idealize.ShloMosaic.ValueIdx (ix1 ix2 eq_ix1 eq_ix2)

variable {F : FTy → Type} [FloatOps F]

/-- The operations before the gather: the list of rows to gather, and the stacked tables as one. -/
def opsA : List (HloOp τ sig (Elt F)) :=
  [(StableHlo.nullary main_v0 (iotaInDim S26 32 0)),
    (StableHlo.nullary main_c (constantI S_ 32 100000#32)),
    (StableHlo.unary main_c main_v1 (broadcastInDim S26 ![] bcast_S_S26 : (⟨S_, .i32⟩ : BufTy).Contents (Elt F) → (⟨S26, .i32⟩ : BufTy).Contents (Elt F))),
    (StableHlo.binary main_v0 main_v1 main_v2 (muli : (⟨S26, .i32⟩ : BufTy).Contents (Elt F) → (⟨S26, .i32⟩ : BufTy).Contents (Elt F) → (⟨S26, .i32⟩ : BufTy).Contents (Elt F))),
    (StableHlo.unary main_v2 main_v3 (broadcastInDim S1x26 ![1] bcast_S26_S1x26_1 : (⟨S26, .i32⟩ : BufTy).Contents (Elt F) → (⟨S1x26, .i32⟩ : BufTy).Contents (Elt F))),
    (StableHlo.unary main_v3 main_v4 (broadcastInDim S16384x26 ![0, 1] bcast_S1x26_S16384x26_0_1 : (⟨S1x26, .i32⟩ : BufTy).Contents (Elt F) → (⟨S16384x26, .i32⟩ : BufTy).Contents (Elt F))),
    (StableHlo.binary main_arg0 main_v4 main_v5 (addi : (⟨S16384x26, .i32⟩ : BufTy).Contents (Elt F) → (⟨S16384x26, .i32⟩ : BufTy).Contents (Elt F) → (⟨S16384x26, .i32⟩ : BufTy).Contents (Elt F))),
    (StableHlo.reshape main_v5 main_v6 (rfl : (.i32 : EltTy) = .i32) shapeCasts_S16384x26_S425984),
    (StableHlo.reshape main_arg2 main_v7 (rfl : (.f32 : EltTy) = .f32) shapeCasts_S26x100000x16_S2600000x16)]

/-- The operations after it: the gathered rows as one row per example, the two parts of the first weights, the biases as rows. -/
def opsB : List (HloOp τ sig (Elt F)) :=
  [(StableHlo.reshape main_v8 main_v9 (rfl : (.f32 : EltTy) = .f32) shapeCasts_S425984x16_S16384x416),
    (StableHlo.unary main_arg3 main_v10 ((extractStridedSlice S416x256 ![0, 0] · slices_S429x256_S416x256_0_0) : (⟨S429x256, .f32⟩ : BufTy).Contents (Elt F) → (⟨S416x256, .f32⟩ : BufTy).Contents (Elt F))),
    (StableHlo.unary main_arg3 main_v11 ((extractStridedSlice S13x256 ![416, 0] · slices_S429x256_S13x256_416_0) : (⟨S429x256, .f32⟩ : BufTy).Contents (Elt F) → (⟨S13x256, .f32⟩ : BufTy).Contents (Elt F))),
    (StableHlo.reshape main_arg4 main_v12 (rfl : (.f32 : EltTy) = .f32) shapeCasts_S256_S1x256),
    (StableHlo.reshape main_arg6 main_v13 (rfl : (.f32 : EltTy) = .f32) shapeCasts_S128_S1x128),
    (StableHlo.reshape main_arg8 main_v14 (rfl : (.f32 : EltTy) = .f32) shapeCasts_S1_S1x1)]

theorem main_eq (d : Dev nD) :
    (main (F := F) d) = (StableHlo.seq opsA >>= fun _ => (K (F := F)).run d 0 >>= fun _ => StableHlo.seq opsB >>= fun _ =>
      Prog.lift (.customCall (SparseCore.inner (Pipeline.entry 0)) ()) >>= fun _ => pure ⟨⟩) := by
  simp only [main, opsA, opsB, StableHlo.seq, bind_assoc, pure_bind]

abbrev dr (b : Ref sig .tc) : DevRef τ sig := Proc.devRef .tc b

/-- The device's unscoped arrays. -/
def ucRefs : Finset (DevRef τ sig) := (StableHlo.tcRefs τ sig).filter fun b => ¬ b.isScoped

variable (m : (ℓ : Loc nD τ sig) → Buf (Elt F) ℓ)

/-- The device's arrays at launch, -/
def V0 (d : Dev nD) : Valuation τ sig (Elt F) := fun b => m (d, b)
/-- before the gather, -/
def V1 (d : Dev nD) : Valuation τ sig (Elt F) := StableHlo.after opsA (V0 m d)
/-- the table, the list and the result's first contents the gather is given, -/
def tabOf (d : Dev nD) : S2600000x16.Idx → Elt F .f32 := V1 m d (dr main_v7)
def lstOf (d : Dev nD) : S425984.Idx → BitVec 32 := V1 m d (dr main_v6)
def oldOf (d : Dev nD) : S425984x16.Idx → Elt F .f32 := V1 m d (dr main_v8)
/-- after it, -/
def V2 (d : Dev nD) : Valuation τ sig (Elt F) := Function.update (V1 m d) (dr main_v8) (gathered (tabOf m d) (lstOf m d))
/-- before the dense kernel, -/
def V3 (d : Dev nD) : Valuation τ sig (Elt F) := StableHlo.after opsB (V2 m d)
/-- and at the end. -/
def V4 (d : Dev nD) : Valuation τ sig (Elt F) := Function.update (V3 m d) (dr main_v15) (outArr (fun c b => V3 m c (dr b)) d)

theorem V4_out (d : Dev nD) : V4 m d (dr main_v15) = outArr (fun c b => V3 m c (dr b)) d := Function.update_self _ _ _
theorem V4_ne (d : Dev nD) (b : Ref sig .tc) (h : b ≠ main_v15) : V4 m d (dr b) = V3 m d (dr b) :=
  Function.update_of_ne (StableHlo.devRef_ne_of_ne h) _ _
theorem V2_out (d : Dev nD) : V2 m d (dr main_v8) = gathered (tabOf m d) (lstOf m d) := Function.update_self _ _ _
theorem V2_ne (d : Dev nD) (b : DevRef τ sig) (h : b ≠ dr main_v8) : V2 m d b = V1 m d b := Function.update_of_ne h _ _

theorem bufsA (op : HloOp τ sig (Elt F)) (h : op ∈ opsA) : op.bufs ⊆ ucRefs := by
  fin_cases h <;> (simp only [StableHlo.nullary_bufs, StableHlo.unary_bufs, StableHlo.binary_bufs, StableHlo.reshape_bufs]; decide)
theorem bufsB (op : HloOp τ sig (Elt F)) (h : op ∈ opsB) : op.bufs ⊆ ucRefs := by
  fin_cases h <;> (simp only [StableHlo.nullary_bufs, StableHlo.unary_bufs, StableHlo.binary_bufs, StableHlo.reshape_bufs]; decide)
theorem freshA (op : HloOp τ sig (Elt F)) (h : op ∈ opsA) : op.fresh = ∅ := by fin_cases h <;> rfl
theorem freshB (op : HloOp τ sig (Elt F)) (h : op ∈ opsB) : op.fresh = ∅ := by fin_cases h <;> rfl

theorem callRefs_sub : ({dr main_v7, dr main_v6, dr main_v8} : Finset (DevRef τ sig)) ⊆ ucRefs := by decide

/-- The argument arrays. -/
abbrev argRefs : List (Ref sig .tc) := [main_arg0, main_arg1, main_arg2, main_arg3, main_arg4, main_arg5, main_arg6, main_arg7, main_arg8]
/-- The arrays the operations before the gather write, -/
abbrev outA : List (Ref sig .tc) := [main_v0, main_c, main_v1, main_v2, main_v3, main_v4, main_v5, main_v6, main_v7]
/-- and those after it. -/
abbrev outB : List (Ref sig .tc) := [main_v9, main_v10, main_v11, main_v12, main_v13, main_v14]

omit [FloatOps F] in
theorem arg_apart : ∀ b ∈ argRefs, b ∉ outA ∧ b ∉ outB ∧ b ≠ main_v15 ∧ b ≠ main_v8 := by decide

theorem V1_arg (d : Dev nD) (b : Ref sig .tc) (hb : b ∉ outA) : V1 m d (dr b) = m ((d : Thread nD τ).loc b) :=
  StableHlo.after_of_writes_sub (W := outA) opsA _ (StableHlo.forall_writes_sub_of_map rfl) hb
theorem V3_keep (d : Dev nD) (b : Ref sig .tc) (hb : b ∉ outB) : V3 m d (dr b) = V2 m d (dr b) :=
  StableHlo.after_of_writes_sub (W := outB) opsB _ (StableHlo.forall_writes_sub_of_map rfl) hb

/-- An argument array is as it was at launch, to the dense kernel -/
theorem V3_arg (d : Dev nD) (b : Ref sig .tc) (hb : b ∈ argRefs) : V3 m d (dr b) = m ((d : Thread nD τ).loc b) := by
  obtain ⟨h1, h2, -, h4⟩ := arg_apart b hb
  rw [V3_keep m d b h2, V2_ne m d _ (StableHlo.devRef_ne_of_ne h4), V1_arg m d b h1]
/-- and to the end. -/
theorem V4_arg (d : Dev nD) (b : Ref sig .tc) (hb : b ∈ argRefs) : V4 m d (dr b) = m ((d : Thread nD τ).loc b) := by
  rw [V4_ne m d b (arg_apart b hb).2.2.1, V3_arg m d b hb]

end Cert.Proof.OnKernelIdeal
-- ==== Proof.AtIdeal.ListRows.lean ====
/-
  What the gather is given: the list holds, at place x, the row of example x / 26's word of field x % 26 among the stacked tables.
-/
module

public import proofs.«01_k».proof.Proof.AtIdeal.HostSide
public import Idealize.ShloMosaic.Lib.IdealHost
public import Idealize.ShloMosaic.Lib.Pipeline.Value

@[expose] public section

noncomputable section

namespace Cert.Proof.OnKernelIdeal

open Cert.KernelIdeal Cert.KernelIdeal.Gen

open Idealize.ShloMosaic
open Idealize.ShloMosaic.TcCoe
open Idealize.SL Idealize.SL.Sem
open Idealize.ShloMosaic.ValueIdx (ix1 ix2 ix3 eq_ix1 eq_ix2)

variable {F : FTy → Type} [FloatOps F]
variable (m : (ℓ : Loc nD τ sig) → Buf (Elt F) ℓ)

/-- The words of `x_embed` on device d, -/
abbrev wordsOf (d : Dev nD) : S16384x26.Idx → BitVec 32 := m ((d : Thread nD τ).loc main_arg0)
/-- and its stack of tables. -/
abbrev tablesOf (d : Dev nD) : S26x100000x16.Idx → Elt F .f32 := m ((d : Thread nD τ).loc main_arg2)

theorem lstOf_eq (d : Dev nD) :
    lstOf m d = shapeCast S425984 (addi (wordsOf m d) (broadcastInDim S16384x26 ![0, 1] bcast_S1x26_S16384x26_0_1
      (broadcastInDim S1x26 ![1] bcast_S26_S1x26_1 (muli (iotaInDim S26 32 0) (broadcastInDim S26 ![] bcast_S_S26 (constantI S_ 32 100000#32))))))
      shapeCasts_S16384x26_S425984 := by
  unfold lstOf V1 opsA
  after_results_simp
  rfl

theorem tabOf_eq (d : Dev nD) : tabOf m d = shapeCast S2600000x16 (tablesOf m d) shapeCasts_S26x100000x16_S2600000x16 := by
  unfold tabOf V1 opsA
  after_results_simp
  rfl

/-- Example and field of a place of the list. -/
def placeEx (n : Fin 425984) : Fin 16384 := ⟨n.val / 26, by omega⟩
def placeFd (n : Fin 425984) : Fin 26 := ⟨n.val % 26, by omega⟩

theorem lstOf_apply (d : Dev nD) (n : Fin 425984) :
    lstOf m d (ix1 n) = wordsOf m d (ix2 (placeEx n) (placeFd n)) + BitVec.ofNat 32 (placeFd n).val * 100000#32 := by
  rw [lstOf_eq]
  rw [shapeCast_apply _ _ _ (ix2 (placeEx n) (placeFd n))]
  · rfl
  · rw [Shape.rowMajor_val_two, Shape.rowMajor_val_one]
    show n.val / 26 * 26 + n.val % 26 = n.val
    omega

theorem lstOf_toNat (d : Dev nD) (n : Fin 425984) (h : (wordsOf m d (ix2 (placeEx n) (placeFd n))).toNat < 100000) :
    (lstOf m d (ix1 n)).toNat = (placeFd n).val * 100000 + (wordsOf m d (ix2 (placeEx n) (placeFd n))).toNat := by
  have hf : (placeFd n).val < 26 := (placeFd n).isLt
  rw [lstOf_apply]
  simp only [BitVec.toNat_add, BitVec.toNat_mul, BitVec.toNat_ofNat, Nat.reducePow]
  omega

theorem lstOf_lt (hw : ∀ d i, (wordsOf m d i).toNat < 100000) (d : Dev nD) (x : S425984.Idx) : (lstOf m d x).toNat < 2600000 := by
  obtain ⟨n, rfl⟩ : ∃ n, x = ix1 n := ⟨x 0, eq_ix1 x⟩
  have hf : (placeFd n).val < 26 := (placeFd n).isLt
  have h := hw d (ix2 (placeEx n) (placeFd n))
  rw [lstOf_toNat m d n h]
  omega

/-- Row f·100000 + w of the stacked tables is row w of table f. -/
theorem tabOf_apply (d : Dev nD) (f : Fin 26) (w : Fin 100000) (k : Fin 16) (r : Fin 2600000) (hr : r.val = f.val * 100000 + w.val) :
    tabOf m d (ix2 r k) = tablesOf m d (ix3 f w k) := by
  rw [tabOf_eq]
  refine shapeCast_apply _ _ _ (ix3 f w k) ?_
  rw [Shape.rowMajor_val_three, Shape.rowMajor_val_two]
  show (f.val * 100000 + w.val) * 16 + k.val = r.val * 16 + k.val
  rw [hr]

/-- The row gathered to place n. -/
theorem gathered_apply (d : Dev nD) (n : Fin 425984) (k : Fin 16) (w : Fin 100000) (hw : (wordsOf m d (ix2 (placeEx n) (placeFd n))).toNat = w.val) :
    gathered (tabOf m d) (lstOf m d) (ix2 n k) = tablesOf m d (ix3 (placeFd n) w k) := by
  have hf : (placeFd n).val < 26 := (placeFd n).isLt
  have hn := lstOf_toNat m d n (hw ▸ w.isLt)
  refine tabOf_apply m d (placeFd n) w k _ ?_
  show (rowNo (lstOf m d (ix1 n))).val = _
  rw [rowNo_val (by rw [hn, hw]; have := w.isLt; omega), hn, hw]

end Cert.Proof.OnKernelIdeal

end
-- ==== Proof.AtIdeal.RunAll.lean ====
/-
  The whole run: from the launch every execution ends, with the arrays at the last valuation of the host side and every counter zero.
-/
module

public import proofs.«01_k».proof.Proof.AtIdeal.HostSide
public import Idealize.ShloMosaic.Lib.SparseCore.Quiescent
public import Idealize.ShloMosaic.Lib.Pipeline.Kit

@[expose] public section

noncomputable section

namespace Cert.Proof.OnKernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_seq)
open Idealize.ShloMosaic.ValueIdx (ix1 ix2 eq_ix1 eq_ix2)

variable {F : FTy → Type}

local notation "𝕄" => MT nD τ sig (HIx 1) (Elt F) ℕ UU ℕ

/-- Where the dense kernel's transfers keep their state. -/
def EP : Emb UP 𝕄 := (Emb.inl : Emb UP (UP × Counters)).trans embR

instance EP_landsIn : (EP (F := F)).LandsIn (upEmb : UEmb _ 𝕄) := by unfold EP; infer_instance

variable [FloatOps F]
variable (m : (ℓ : Loc nD τ sig) → Buf (Elt F) ℓ) (ρ : Dev nD → PrngReg)

omit [FloatOps F] in
theorem unscopedBufs_held (c : Dev nD) (W : Valuation τ sig (Elt F)) :
    (unscopedBufs c (fun b => W (dr b)) : sProp 𝕄) = held (c : Thread nD τ) ucRefs W := by
  unfold unscopedBufs held ucRefs StableHlo.tcRefs
  rw [Finset.filter_map, bigSep_map]
  rfl

/-- What the launch gives each device for the dense kernel's transfers. -/
def G (d : Dev nD) : sProp 𝕄 :=
  iprop(Pipeline.cellsGhost (Pipeline.pin (pcfgs (F := F)) adm) EP 0 d ∗ Pipeline.toksInit (Pipeline.pin (pcfgs (F := F)) adm) EP 0 d)

abbrev PP := P (F := F) (tabOf m) (lstOf m) (oldOf m)

def u₀ : UU :=
  (initOf (K (F := F)).hsCells (K (F := F)).hsToks,
    initOf (Pipeline.cells (nD := nD) (τ := τ) cfgs cellOf_inj) (Pipeline.launchToks (nD := nD) (τ := τ) cfgs cellOf_inj), 1)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) :=
    (bigSep_congr fun _ _ => bigSep_univ_of_subsingleton (0 : Fin 1)).trans (bigSep_emp_const _)
  have hG : (bigSep Finset.univ fun d : Dev nD => G (F := F) d)
      = iprop((bigSep Finset.univ fun c : Dev nD => bigSep Finset.univ fun p : Fin 1 => Pipeline.cellsGhost (Pipeline.pin (pcfgs (F := F)) adm) EP p c)
        ∗ (bigSep Finset.univ fun c : Dev nD => bigSep Finset.univ fun p : Fin 1 => (Pipeline.toksInit (Pipeline.pin (pcfgs (F := F)) adm) EP p c : sProp 𝕄))) := by
    unfold G
    rw [bigSep_sep']
    congr 1
    · exact bigSep_congr fun c _ =>
        (bigSep_univ_of_subsingleton (Φ := fun p : Fin 1 => Pipeline.cellsGhost (Pipeline.pin (pcfgs (F := F)) adm) EP p c) (0 : Fin 1)).symm
    · exact bigSep_congr fun c _ =>
        (bigSep_univ_of_subsingleton (Φ := fun p : Fin 1 => (Pipeline.toksInit (Pipeline.pin (pcfgs (F := F)) adm) EP p c : sProp 𝕄)) (0 : Fin 1)).symm
  rw [hx, hG]
  unfold u₀
  iintro Hu
  ihave H := (ownU_pair (initOf (K (F := F)).hsCells (K (F := F)).hsToks)
    (initOf (Pipeline.cells (nD := nD) (τ := τ) cfgs cellOf_inj) (Pipeline.launchToks (nD := nD) (τ := τ) cfgs cellOf_inj), (1 : Counters))) $$ Hu
  icases H with ⟨HH, HR⟩
  ihave H2 := (show (BI.own (embR (initOf (Pipeline.cells (nD := nD) (τ := τ) cfgs cellOf_inj) (Pipeline.launchToks (nD := nD) (τ := τ) cfgs cellOf_inj), (1 : Counters))) : sProp 𝕄)
      ⊢ iprop(BI.own (EP (initOf (Pipeline.cells (nD := nD) (τ := τ) cfgs cellOf_inj) (Pipeline.launchToks (nD := nD) (τ := τ) cfgs cellOf_inj)))
        ∗ BI.own (((Emb.inr : Emb Counters (UP × Counters)).trans embR) (1 : Counters)))
    from own_pair_emb (embR : Emb (UP × Counters) 𝕄) _ _) $$ HR
  icases H2 with ⟨HP, -⟩
  imod (Pipeline.fund_ghost (nD := nD) (τ := τ) cfgs EP cellOf_inj) $$ HP with ⟨Hc, Ht⟩
  imodintro
  isplitl [HH]; · iexact HH
  isplitl [Hc Ht]
  · isplitl [Hc]; · iexact Hc
    iexact Ht
  iempintro

/-- The device's arrays at the end. -/
abbrev FIN (d : Dev nD) : sProp 𝕄 := held (d : Thread nD τ) ucRefs (V4 m d)

/-- The dense kernel's call, as its own layer of the program makes it. -/
abbrev denseCall : Prog (TpuEff nD τ sig (Elt F) (ΛP (F := F)) .tc) PUnit :=
  .op (.customCall (Pipeline.entry (0 : Fin 1)) ()) fun u => .ret u

theorem denseCall_lift : (Prog.lift (.customCall (SparseCore.inner (Pipeline.entry 0)) ()) :
    Prog (TpuEff nD τ sig (Elt F) (SparseCore.Sig (ΛP (F := F)) 1) .tc) PUnit) = SparseCore.liftProg (denseCall (F := F)) := rfl

/-- The dense kernel's call, in the program. -/
theorem dense_call [∀ e, Nonempty (Elt F e)] (d : Dev nD) (Φ : PUnit → sProp 𝕄) :
    iprop((iprop(boundary (d : Thread nD τ) ∗ held (d : Thread nD τ) ucRefs (V4 m d) ∗ lowOwes d) -∗ Φ ⟨⟩)
        ∗ boundary (d : Thread nD τ) ∗ held (d : Thread nD τ) ucRefs (V3 m d) ∗ lowOwes d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  rw [denseCall_lift]
  refine BI.Entails.trans ?_ ((K (F := F)).wp_liftProg (D (F := F)) 𝒱 (SparseCore.T d) Set.univ none (denseCall (F := F)) Φ)
  have h := Pipeline.RegionSeg.wp (pcfgs (F := F)) adm (pdats (fun c b => V3 m c (dr b))) (none : HIx 1) cellOf_inj (EP (F := F)) defs₀ 𝒱₀
    (K (F := F)).L (K (F := F)).lev
    (reg (fun c b => V3 m c (dr b)) (fun c b => V4 m c (dr b)) (fun c => (V4_out m c).trans (arrAt9 (fun c b => V3 m c (dr b)) c).symm)
      (fun c b hb => V4_ne m c b hb)) d none (fun u hu => nomatch hu) (fun u => .ret u) Φ
  refine BI.Entails.trans ?_ h
  show _ ⊢ iprop((iprop(boundary (d : Thread nD τ) ∗ (unscopedBufs d (fun b => V4 m d (dr b)) ∗ lowOwes d)) -∗ _)
    ∗ boundary (d : Thread nD τ) ∗ (unscopedBufs d (fun b => V3 m d (dr b)) ∗ lowOwes d) ∗ _)
  rw [unscopedBufs_held, unscopedBufs_held]
  unfold G
  iintro ⟨Hk, Hb, Hh, Ho, HL, Hg⟩
  isplitl [Hk]
  · iintro ⟨Hb, Hh, Ho⟩
    sl_step
    iapply Hk
    isplitl [Hb]; · iexact Hb
    isplitl [Hh]; · iexact Hh
    iexact Ho
  isplitl [Hb]; · iexact Hb
  isplitl [Hh Ho]
  · isplitl [Hh]; · iexact Hh
    iexact Ho
  isplitl [HL]; · iexact HL
  iexact Hg

/-- What @main ends with. -/
abbrev ENDS (d : Dev nD) : sProp 𝕄 := iprop((K (F := F)).tcSt EH d 1 ∗ FIN m d ∗ (K (F := F)).tcEnd d)

abbrev wpT {α : Type} (d : Dev nD) (p : Prog (TpuEff nD τ sig (Elt F) (SparseCore.Sig (ΛP (F := F)) 1) .tc) α) (Φ : α → sProp 𝕄) : sProp 𝕄 :=
  wp frame (wpE ((K (F := F)).defs (D (F := F))) 𝒱 (SparseCore.T d) none) Set.univ p Φ

/-- The state of the thread's waits after the gather, as the dense kernel's region takes it and hands it back. -/
theorem tcSt_open (d : Dev nD) : ((K (F := F)).tcSt EH d 1 : sProp 𝕄) ⊢ iprop(lowOwes d ∗ (lowOwes d -∗ (K (F := F)).tcSt EH d 1)) := by
  unfold SparseCore.Cfg.tcSt lowOwes
  rw [(K (F := F)).Otc_end d (le_refl 1)]
  iintro ⟨H, Hr⟩
  isplitl [H]; · iexact H
  iintro H
  isplitl [H]; · iexact H
  iexact Hr

variable [∀ e, Nonempty (Elt F e)]

theorem main_dense (d : Dev nD) :
    iprop(boundary (d : Thread nD τ) ∗ held (d : Thread nD τ) ucRefs (V3 m d) ∗ (K (F := F)).tcSt EH d 1 ∗ levAts (K (F := F)).L (K (F := F)).lev
        ∗ G (F := F) d ∗ (K (F := F)).tcSems0 d)
      ⊢ wpT d (Prog.lift (.customCall (SparseCore.inner (Pipeline.entry 0)) ()) >>= fun _ => pure ⟨⟩) fun _ : PUnit => ENDS m d := by
  rw [wpT, wp_bind]
  iintro ⟨Hb, Hh, Hst, HL, HG, Hts⟩
  ihave H := (tcSt_open d) $$ Hst
  icases H with ⟨Ho, Hback⟩
  iapply (dense_call m d _)
  isplitl [Hback Hts]
  · iintro ⟨Hb, Hh, Ho⟩
    sl_step
    isplitl [Hback Ho]; · iapply Hback; iexact Ho
    isplitl [Hh]; · iexact Hh
    unfold SparseCore.Cfg.tcEnd
    isplitl [Hb]; · iexact Hb
    iexact Hts
  isplitl [Hb]; · iexact Hb
  isplitl [Hh]; · iexact Hh
  isplitl [Ho]; · iexact Ho
  isplitl [HL]; · iexact HL
  iexact HG

theorem main_after (d : Dev nD) :
    iprop(boundary (d : Thread nD τ) ∗ held (d : Thread nD τ) ucRefs (V2 m d) ∗ (K (F := F)).tcSt EH d 1 ∗ levAts (K (F := F)).L (K (F := F)).lev
        ∗ G (F := F) d ∗ (K (F := F)).tcSems0 d)
      ⊢ wpT d (StableHlo.seq opsB >>= fun _ => Prog.lift (.customCall (SparseCore.inner (Pipeline.entry 0)) ()) >>= fun _ => pure ⟨⟩)
          fun _ : PUnit => ENDS m d := by
  iintro ⟨Hb, Hh, Hrest⟩
  iapply (wp_seq 𝒱 none Set.univ d ucRefs _ opsB bufsB freshB (V2 m d)) $$ [Hb Hh]
  · isplitl [Hb]; · iexact Hb
    iexact Hh
  iintro ⟨Hb, Hh⟩
  iapply (main_dense m d)
  isplitl [Hb]; · iexact Hb
  isplitl [Hh]; · iexact Hh
  iexact Hrest

/-- The three arrays of the call out of the device's arrays. -/
theorem held_call (d : Dev nD) (W : Valuation τ sig (Elt F)) :
    (held (d : Thread nD τ) {dr main_v7, dr main_v6, dr main_v8} W : sProp 𝕄)
      = iprop((tLoc d ↦{fullShare} W (dr main_v7)) ∗ (iLoc d ↦{fullShare} W (dr main_v6)) ∗ (oLoc d ↦{fullShare} W (dr main_v8))) := by
  unfold held
  rw [SparseCore.bigSep_insert' (by decide), SparseCore.bigSep_insert' (by decide), bigSep_singleton]

theorem held_rest (d : Dev nD) :
    (held (d : Thread nD τ) (ucRefs \ {dr main_v7, dr main_v6, dr main_v8}) (V2 m d) : sProp 𝕄)
      = held (d : Thread nD τ) (ucRefs \ {dr main_v7, dr main_v6, dr main_v8}) (V1 m d) :=
  bigSep_congr fun b hb => by
    rw [V2_ne m d b fun h => (Finset.mem_sdiff.mp hb).2 (by rw [h]; decide)]

/-- The call's three arrays go back among the device's arrays, the gathered one holding the rows. -/
theorem held_back (d : Dev nD) :
    iprop(callRes (tabOf m) (lstOf m) d (gathered (tabOf m d) (lstOf m d))
        ∗ held (d : Thread nD τ) (ucRefs \ {dr main_v7, dr main_v6, dr main_v8}) (V1 m d))
      ⊢ (held (d : Thread nD τ) ucRefs (V2 m d) : sProp 𝕄) := by
  rw [held_sub_split (d : Thread nD τ) callRefs_sub (V2 m d), held_call, held_rest, V2_out, V2_ne m d _ (show dr main_v7 ≠ dr main_v8 by decide),
    V2_ne m d _ (show dr main_v6 ≠ dr main_v8 by decide)]
  exact .rfl

theorem main_gather (κ : GSem nD τ sig → ℕ) (d : Dev nD) :
    iprop((K (F := F)).ctx EH (PP m) κ (K (F := F)).lev ∗ boundary (d : Thread nD τ) ∗ held (d : Thread nD τ) ucRefs (V1 m d) ∗ (K (F := F)).tcSt EH d 0
        ∗ G (F := F) d ∗ (K (F := F)).tcSems0 d)
      ⊢ wpT d ((K (F := F)).run d 0 >>= fun _ => StableHlo.seq opsB >>= fun _ =>
          Prog.lift (.customCall (SparseCore.inner (Pipeline.entry 0)) ()) >>= fun _ => pure ⟨⟩) fun _ : PUnit => ENDS m d := by
  rw [wpT, wp_bind, held_sub_split (d : Thread nD τ) callRefs_sub (V1 m d), held_call]
  iintro ⟨#Hctx, Hb, ⟨⟨Ht, Hi, Ho⟩, Hrest⟩, Hst, HG, Hts⟩
  iapply ((K (F := F)).wp_run (D (F := F)) 𝒱 (EH := EH) (P := PP m) κ d 0) $$ [Hst Ht Hi Ho Hb Hrest HG Hts]
  isplitr; · iexact Hctx
  isplitl [Hst]; · iexact Hst
  isplitl [Ht Hi Ho]
  · iapply (Entails.of_eq (st_eq (tabOf m) (lstOf m) (oldOf m) d).symm)
    unfold callRes
    isplitl [Ht]; · iexact Ht
    isplitl [Hi]; · iexact Hi
    iexact Ho
  iintro ⟨Hst, Hdn⟩
  ihave Hdn := (Entails.of_eq (dn_eq (tabOf m) (lstOf m) (oldOf m) d)) $$ Hdn
  ihave HL := ((K (F := F)).ctx_levAts κ) $$ Hctx
  iapply (main_after m d)
  isplitl [Hb]; · iexact Hb
  isplitl [Hdn Hrest]
  · iapply (held_back m d)
    isplitl [Hdn]; · iexact Hdn
    iexact Hrest
  isplitl [Hst]; · iexact Hst
  isplitl [HL]; · iexact HL
  isplitl [HG]; · iexact HG
  iexact Hts

theorem launch_held (d : Dev nD) :
    (unscopedBufs d (fun b => m ((SparseCore.T d).loc b)) : sProp 𝕄) ⊢ held (d : Thread nD τ) ucRefs (V0 m d) :=
  Entails.of_eq (unscopedBufs_held d (V0 m d))

/-- @main, from the launch's dealing to what it ends with. -/
theorem hmain (ρ : Dev nD → PrngReg) (κ : GSem nD τ sig → ℕ) (d : Dev nD) :
    iprop((K (F := F)).ctx EH (PP m) κ (K (F := F)).lev ∗ (K (F := F)).tcSt EH d 0 ∗ (K (F := F)).tcRes m ρ d ∗ G (F := F) d)
      ⊢ wpT d (main d) fun _ => ENDS m d := by
  rw [main_eq]
  unfold SparseCore.Cfg.tcRes
  iintro ⟨#Hctx, Hst, ⟨Hb, Hh, Hts, -⟩, HG⟩
  ihave Hh := (launch_held m d) $$ Hh
  iapply (wp_seq 𝒱 none Set.univ d ucRefs _ opsA bufsA freshA (V0 m d)) $$ [Hb Hh]
  · isplitl [Hb]; · iexact Hb
    iexact Hh
  iintro ⟨Hb, Hh⟩
  iapply (main_gather m κ d)
  isplitr; · iexact Hctx
  isplitl [Hb]; · iexact Hb
  isplitl [Hh]; · iexact Hh
  isplitl [Hst]; · iexact Hst
  isplitl [HG]; · iexact HG
  iexact Hts

/-- The arrays of device d at the end of the run. -/
def fq (d : Dev nD) (s' : Phys nD τ sig (Elt F)) : Prop := ∀ b ∈ ucRefs, s'.mem.mem (d, b) = V4 m d b

theorem hfin (d : Dev nD) (s' : Phys nD τ sig (Elt F)) : iprop(FIN m d ∗ SI s') ⊢ (⌜fq m d s'⌝ : sProp 𝕄) := by
  unfold FIN held
  iintro ⟨H, HSI⟩
  iapply (SI_pointsTo_bufs_agree (st := s') (c := d) (qs := fun _ => fullShare) (F := V4 m d) ucRefs)
  isplitl [HSI]; · iexact HSI
  iexact H

theorem run_main (ρ : Dev nD → PrngReg) (hin : ∀ d x, (lstOf m d x).toNat < 2600000) :
    θ_run defs threads ⟨m, fun _ => 0, ρ⟩ fun r => (∀ d, ∀ b ∈ ucRefs, r.2.mem (d, b) = V4 m d b) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tabOf m) (lstOf m) (oldOf m) facts hin)
    (fun q _ => match q with | 0 => SparseCore.Cfg.VecSplit.of_plain (vecSplit (tabOf m) (lstOf m) (oldOf m)))
    m ρ main (G (F := F)) (FIN m) (u₀ (F := F)) (sep_elim_left.trans (hu₀ m)) (hmain m ρ) (fq m) (hfin m)
    (fun r => (∀ d, ∀ b ∈ ucRefs, r.2.mem (d, b) = V4 m d b) ∧ r.2.sem = fun _ => 0) (fun _ h hz => ⟨h, hz⟩)

end Cert.Proof.OnKernelIdeal
-- ==== Proof.AtIdeal.Ends.lean ====
/-
  The run read at the result and at the arguments, for words of `x_embed` inside the vocabulary.
-/
module

public import proofs.«01_k».proof.Proof.AtIdeal.ListRows
public import proofs.«01_k».proof.Proof.AtIdeal.RunAll

@[expose] public section

noncomputable section

namespace Cert.Proof.OnKernelIdeal

open Cert.KernelIdeal Cert.KernelIdeal.Gen

open Idealize.ShloMosaic
open Idealize.ShloMosaic.TcCoe
open Idealize.SL Idealize.SL.Sem

variable {F : FTy → Type} [FloatOps F] [∀ e, Nonempty (Elt F e)]
variable (m : (ℓ : Loc nD τ sig) → Buf (Elt F) ℓ)

omit [FloatOps F] [∀ e, Nonempty (Elt F e)] in
theorem arg_held : ∀ b ∈ main_v15 :: argRefs, dr b ∈ ucRefs := by decide

theorem run_ends (ρ : Dev nD → PrngReg) (hw : ∀ d i, (wordsOf m d i).toNat < 100000) :
    θ_run defs threads ⟨m, fun _ => 0, ρ⟩ fun r => (∀ c : Dev nD, r.2.mem ((c : Thread nD τ).loc main_v15) = V4 m c (dr main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0 := by
  refine (θ_run defs _ _).mono (fun r h => ⟨fun c => ?_, h.2⟩) (run_main m ρ (lstOf_lt m hw))
  have ha (b : Ref sig .tc) (hb : b ∈ argRefs) : r.2.mem ((c : Thread nD τ).loc b) = m ((c : Thread nD τ).loc b) :=
    (h.1 c (dr b) (arg_held b (List.mem_cons_of_mem _ hb))).trans (V4_arg m c b hb)
  exact ⟨h.1 c (dr main_v15) (arg_held _ (List.mem_cons_self ..)), ha main_arg0 (by decide), ha main_arg1 (by decide), ha main_arg2 (by decide), ha main_arg3 (by decide), ha main_arg4 (by decide), ha main_arg5 (by decide), ha main_arg6 (by decide), ha main_arg7 (by decide), ha main_arg8 (by decide)⟩

end Cert.Proof.OnKernelIdeal

end
-- ==== Proof.RefRows.lean ====
/-
  The reference's lookup: with every word of `x_embed` inside the vocabulary, row (i, f) of the looked-up embeddings is row `x_embed[i, f]` of table f.
-/
module

public import proofs.«01_k».proof.Proof.Gen.ReferenceIdeal
public import proofs.«01_k».proof.Proof.Vocab
public import Idealize.ShloMosaic.PureOps.Ideal
public import Idealize.ShloMosaic.Lib.ReduceAll
public import Idealize.ShloMosaic.Lib.ValueIdxCore
public import Idealize.ShloMosaic.Lib.Pipeline.Value

@[expose] public section

noncomputable section

namespace Cert.Proof.Ref

open Cert.ReferenceIdeal Cert.ReferenceIdeal.Gen
open Idealize.ShloMosaic
open Idealize.ShloMosaic.ValueIdx (ix0 ix1 ix2 ix3 eq_ix1 eq_ix2 eq_ix3)

variable (a0 : IVec S16384x26 32) (a2 : FVec Ideal S26x100000x16 .f32)

/-- The words the lookup reads, negative ones taken from the table's end, by field. -/
def starts : IVec S26x16384x1 32 :=
  broadcastInDim S26x16384x1 ![0, 1] bcast_S26x16384_S26x16384x1_0_1 (transpose S26x16384 [1, 0]
    (select (cmpi .slt a0 (broadcastInDim S16384x26 ![] bcast_S_S16384x26 (constantI S_ 32 0#32)))
      (addi a0 (broadcastInDim S16384x26 ![] bcast_S_S16384x26 (constantI S_ 32 100000#32))) a0) transposes_S16384x26_S26x16384_1_0)

/-- Which of them are inside the table. -/
def inside : IVec S26x16384 1 :=
  Host.reduce IntOp.andi (andi (cmpi .sge (starts a0) (broadcastInDim S26x16384x1 ![] bcast_S_S26x16384x1 (constantI S_ 32 0#32)))
    (cmpi .sle (starts a0) (broadcastInDim S26x16384x1 ![0, 1, 2] bcast_S1x1x1_S26x16384x1_0_1_2 (broadcastInDim S1x1x1 ![2] bcast_S1_S1x1x1_2 (constantI S1 32 99999#32)))))
    (constantI S_ 1 1#1) reducesTo_S26x16384x1_S26x16384_d2 h_S_

/-- The rows looked up, by field. -/
def looked : FVec Ideal S26x16384x16 .f32 :=
  select (broadcastInDim S26x16384x16 ![0, 1] bcast_S26x16384_S26x16384x16_0_1 (inside a0))
    (Host.gather gather_S26x100000x16_S26x16384x1_S26x16384x16_2_1_0_0_1_2_1116 a2 (starts a0))
    (broadcastInDim S26x16384x16 ![] bcast_S_S26x16384x16 (constant S_ .f32 0x7FC00000#32))

/-- The embeddings of each example in one row. -/
def embs : FVec Ideal S16384x416 .f32 :=
  shapeCast S16384x416 (transpose S16384x26x16 [1, 0, 2] (looked a0 a2) transposes_S26x16384x16_S16384x26x16_1_0_2) shapeCasts_S16384x26x16_S16384x416

variable {a0} (hw : ∀ i, (a0 i).toNat < 100000)
include hw

omit hw in
theorem not_neg (w : BitVec 32) (h : w.toNat < 100000) : IntOp.cmpi .slt w 0#32 = 0#1 := by
  have e : w.slt 0#32 = false := by
    rw [BitVec.slt_eq_decide, Vocab.toInt_small h]
    simp
  show BitVec.ofBool (w.slt 0#32) = 0#1
  rw [e]; rfl

omit hw in
theorem in_table (w : BitVec 32) (h : w.toNat < 100000) : IntOp.andi (IntOp.cmpi .sge w 0#32) (IntOp.cmpi .sle w 99999#32) = 1#1 := by
  simp only [IntOp.cmpi, Vocab.andi_bools, Vocab.bool_one, Bool.and_eq_true, BitVec.sle_eq_decide, decide_eq_true_eq, Vocab.toInt_small h]
  have e0 : (0#32).toInt = 0 := by decide
  have e1 : (99999#32).toInt = 99999 := by decide
  rw [e0, e1]
  omega

theorem starts_apply (f : Fin 26) (i : Fin 16384) (z : Fin 1) : starts a0 (ix3 f i z) = a0 (ix2 i f) := by
  unfold starts
  refine (broadcastInDim_apply _ _ _ _ (ix2 f i) (fun a => by match a with | ⟨0, _⟩ => rfl | ⟨1, _⟩ => rfl)).trans
    ((transpose_apply _ _ _ _ (ix2 i f) (fun a => by match a with | ⟨0, _⟩ => rfl | ⟨1, _⟩ => rfl)).trans ?_)
  show Scalar.select (IntOp.cmpi .slt (a0 (ix2 i f)) 0#32) _ _ = _
  rw [not_neg _ (hw _)]
  rfl

theorem inside_apply (j : S26x16384.Idx) : inside a0 j = 1#1 := by
  refine Host.reduce_andi_one _ _ _ _ _ rfl fun i => ?_
  show IntOp.andi (IntOp.cmpi .sge (starts a0 i) 0#32) (IntOp.cmpi .sle (starts a0 i) 99999#32) = 1#1
  obtain ⟨f, n, z, rfl⟩ : ∃ f n z, i = ix3 f n z := ⟨i 0, i 1, i 2, eq_ix3 i⟩
  rw [starts_apply hw]
  exact in_table _ (hw _)

omit hw in
theorem gather_apply (idx : IVec S26x16384x1 32) (f : Fin 26) (i : Fin 16384) (k : Fin 16) :
    Host.gather gather_S26x100000x16_S26x16384x1_S26x16384x16_2_1_0_0_1_2_1116 a2 idx (ix3 f i k)
      = a2 (ix3 f ⟨min (idx (ix3 f i 0)).toInt.toNat 99999, by omega⟩ k) := by
  unfold Host.gather
  congr 1
  funext a
  refine Fin.ext ?_
  show GatherDims.start _ _ _ a + GatherDims.batchCoord _ _ a + GatherDims.offCoord _ _ a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S26x100000x16_S26x16384x1_S26x16384x16_2_1_0_0_1_2_1116 from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S26x100000x16_S26x16384x1_S26x16384x16_2_1_0_0_1_2_1116 from List.mem_singleton.mpr rfl)]
    have hsi : GatherDims.siIdx gather_S26x100000x16_S26x16384x1_S26x16384x16_2_1_0_0_1_2_1116 (ix3 f i k)
        ⟨List.idxOf (1 : Fin 3) (GatherDims.startIndexMap gather_S26x100000x16_S26x16384x1_S26x16384x16_2_1_0_0_1_2_1116),
          List.idxOf_lt_length_iff.2 (List.mem_singleton.mpr rfl)⟩ = ix3 f i 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (fun h => absurd (List.mem_singleton.mp h) (by decide))]
    unfold GatherDims.start
    rw [dif_neg (show (2 : Fin 3) ∉ GatherDims.startIndexMap gather_S26x100000x16_S26x16384x1_S26x16384x16_2_1_0_0_1_2_1116 from
      fun h => absurd (List.mem_singleton.mp h) (by decide))]
    simp only [Nat.zero_add]
    rfl

theorem looked_apply (f : Fin 26) (i : Fin 16384) (k : Fin 16) (w : Fin 100000) (hv : (a0 (ix2 i f)).toNat = w.val) :
    looked a0 a2 (ix3 f i k) = a2 (ix3 f w k) := by
  have hi : broadcastInDim S26x16384x16 ![0, 1] bcast_S26x16384_S26x16384x16_0_1 (inside a0) (ix3 f i k) = 1#1 :=
    (broadcastInDim_apply _ _ _ _ (ix2 f i) (fun a => by match a with | ⟨0, _⟩ => rfl | ⟨1, _⟩ => rfl)).trans (inside_apply hw _)
  unfold looked
  rw [ValueIdx.select_apply, hi, gather_apply]
  have e : min (starts a0 (ix3 f i 0)).toInt.toNat 99999 = w.val := by
    rw [starts_apply hw, Vocab.toInt_small (hw _), Int.toNat_natCast, hv]
    have := w.isLt
    omega
  exact congrArg (fun r => a2 (ix3 f r k)) (Fin.ext e)

/-- Place k of an example's row is coordinate k % 16 of field k / 16's embedding. -/
theorem embs_apply (i : Fin 16384) (k : Fin 416) (f : Fin 26) (q : Fin 16) (hk : k.val = f.val * 16 + q.val) (w : Fin 100000)
    (hv : (a0 (ix2 i f)).toNat = w.val) : embs a0 a2 (ix2 i k) = a2 (ix3 f w q) := by
  unfold embs
  refine (shapeCast_apply _ shapeCasts_S16384x26x16_S16384x416 _ (ix3 i f q) ?_).trans
    ((transpose_apply _ _ _ _ (ix3 f i q) (fun a => by match a with | ⟨0, _⟩ => rfl | ⟨1, _⟩ => rfl | ⟨2, _⟩ => rfl)).trans (looked_apply a2 hw f i q w hv))
  rw [Shape.rowMajor_val_three, Shape.rowMajor_val_two]
  show (i.val * 26 + f.val) * 16 + q.val = i.val * 416 + k.val
  omega

end Cert.Proof.Ref

end
-- ==== Proof.Layers.lean ====
/-
  The network's arithmetic over the extended reals: one example's result as sums, and the array operations it is computed by read at an index.
-/
module

public import Idealize.ShloMosaic.Lib.MatmulPlain
public import Idealize.ShloMosaic.Lib.StackMember
public import Idealize.ShloMosaic.Lib.IdealHost
public import Idealize.ShloMosaic.Lib.Pipeline.Value

@[expose] public section

noncomputable section

namespace Cert.Proof.Layers

open Idealize.ShloMosaic
open Idealize.ShloMosaic.ValueIdx (ix0 ix1 ix2 ix3 eq_ix1 eq_ix2)

/-- The contraction of a row and a column. -/
def dotRow {K : ℕ} (x w : Fin K → EReal) : EReal := ∑ k, x k * w k

/-- One layer's unit: the contraction, the bias, and nothing below zero. -/
def unit (s b : EReal) : EReal := max (s + b) 0

/-- One example's result from its first layer's contractions. -/
def tail (s₁ : Fin 256 → EReal) (b₁ : Fin 256 → EReal) (W₂ : Fin 256 → Fin 128 → EReal) (b₂ : Fin 128 → EReal) (W₃ : Fin 128 → EReal) (b₃ : EReal) : EReal :=
  dotRow (fun q => unit (dotRow (fun j => unit (s₁ j) (b₁ j)) fun j => W₂ j q) (b₂ q)) W₃ + b₃

/-- A contraction over 429 places is the one over the first 416 plus the one over the last 13. -/
theorem dotRow_split (x w : Fin 429 → EReal) :
    dotRow x w = dotRow (fun k : Fin 416 => x (Fin.castAdd 13 k)) (fun k => w (Fin.castAdd 13 k))
      + dotRow (fun k : Fin 13 => x (Fin.natAdd 416 k)) (fun k => w (Fin.natAdd 416 k)) :=
  Fin.sum_univ_add (a := 416) (b := 13) fun k => x k * w k

variable {M K N : ℕ}

/-- A kernel's product into zeros, -/
theorem product_apply (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (r : Fin M) (c : Fin N) :
    matmul d none A B (constant ⟨2, ![M, N]⟩ .f32 0x00000000#32) (ix2 r c) = dotRow (fun k => A (ix2 r k)) fun k => B (ix2 k c) := by
  subst hd
  show FloatOps.matmul (DotDims.plain M K N) none A B _ (ix2 r c) = _
  rw [Ideal.matmul_plain_apply]
  show Ideal.ofBits .f32 0x00000000#32 + _ = _
  rw [Ideal.ofBits_zero_f32, zero_add]
  rfl

/-- and the host's. -/
theorem hostProduct_apply (d : DotDims ⟨2, ![M, K]⟩ ⟨2, ![K, N]⟩ ⟨2, ![M, N]⟩) (hd : d = DotDims.plain M K N)
    (A : FVec Ideal ⟨2, ![M, K]⟩ .f32) (B : FVec Ideal ⟨2, ![K, N]⟩ .f32) (r : Fin M) (c : Fin N) :
    Host.dotGeneral d none A B (ix2 r c) = dotRow (fun k => A (ix2 r k)) fun k => B (ix2 k c) := by
  subst hd
  exact StackMember.dotGeneral_plain_apply none A B r c

/-- A row spread down a block, -/
theorem spread_apply (h : (⟨2, ![1, N]⟩ : Shape).Broadcasts ⟨2, ![M, N]⟩) (b : FVec Ideal ⟨2, ![1, N]⟩ .f32) (r : Fin M) (c : Fin N) :
    broadcastTo ⟨2, ![M, N]⟩ b h (ix2 r c) = b (ix2 0 c) := by
  refine broadcastTo_apply b h _ _ fun a => ?_
  match a with
  | ⟨0, _⟩ => rfl
  | ⟨1, _⟩ =>
    show c.val = if N = 1 then 0 else c.val
    split
    · next e => have := c.isLt; omega
    · rfl

/-- and a vector spread down an array by the host. -/
theorem hostSpread_apply (h : (⟨1, ![N]⟩ : Shape).BroadcastsInDim ⟨2, ![1, N]⟩ ![1]) (h' : (⟨2, ![1, N]⟩ : Shape).BroadcastsInDim ⟨2, ![M, N]⟩ ![0, 1])
    (b : FVec Ideal ⟨1, ![N]⟩ .f32) (r : Fin M) (c : Fin N) :
    broadcastInDim ⟨2, ![M, N]⟩ ![0, 1] h' (broadcastInDim ⟨2, ![1, N]⟩ ![1] h b) (ix2 r c) = b (ix1 c) := by
  refine (broadcastInDim_apply ![0, 1] h' _ _ (ix2 0 c) fun a => ?_).trans (broadcastInDim_apply ![1] h _ _ (ix1 c) fun a => ?_)
  · match a with
    | ⟨0, _⟩ => rfl
    | ⟨1, _⟩ =>
      show c.val = if N = 1 then 0 else c.val
      split
      · next e => have := c.isLt; omega
      · rfl
  · match a with
    | ⟨0, _⟩ =>
      show c.val = if N = 1 then 0 else c.val
      split
      · next e => have := c.isLt; omega
      · rfl

/-- The rectifier after a bias, in a kernel -/
theorem unit_apply (A B : FVec Ideal ⟨2, ![M, N]⟩ .f32) (r : Fin M) (c : Fin N) :
    maximumf (addf A B) (broadcast ⟨2, ![M, N]⟩ (Scalar.ofBits .f32 0x00000000#32)) (ix2 r c) = unit (A (ix2 r c)) (B (ix2 r c)) := by
  show max (A (ix2 r c) + B (ix2 r c)) (Ideal.ofBits .f32 0x00000000#32) = _
  rw [Ideal.ofBits_zero_f32]
  rfl

/-- and on the host. -/
theorem hostUnit_apply (h : (⟨0, ![]⟩ : Shape).BroadcastsInDim ⟨2, ![M, N]⟩ ![]) (A B : FVec Ideal ⟨2, ![M, N]⟩ .f32) (r : Fin M) (c : Fin N) :
    maximumf (addf A B) (broadcastInDim ⟨2, ![M, N]⟩ ![] h (constant ⟨0, ![]⟩ .f32 0x00000000#32)) (ix2 r c) = unit (A (ix2 r c)) (B (ix2 r c)) := by
  show max (A (ix2 r c) + B (ix2 r c)) (Ideal.ofBits .f32 0x00000000#32) = _
  rw [Ideal.ofBits_zero_f32]
  rfl

end Cert.Proof.Layers

end
-- ==== Proof.RefValue.lean ====
/-
  The reference's result at an example, as the network's sums.
-/
module

public import proofs.«01_k».proof.Proof.RefRows
public import proofs.«01_k».proof.Proof.Layers
public import proofs.«01_k».proof.Proof.Gen.ReferenceIdeal.Run

@[expose] public section

noncomputable section

namespace Cert.Proof.Ref

open Cert.ReferenceIdeal Cert.ReferenceIdeal.Gen
open Idealize.ShloMosaic
open Idealize.ShloMosaic.TcCoe Idealize.SL.Sem
open Idealize.ShloMosaic.ValueIdx (ix0 ix1 ix2 ix3 eq_ix1 eq_ix2 eq_ix3)
open Cert.Proof.Layers (dotRow unit tail dotRow_split hostProduct_apply hostSpread_apply hostUnit_apply)

/-- The first layer's input, -/
def input (E : FVec Ideal S16384x416 .f32) (X : FVec Ideal S16384x13 .f32) : FVec Ideal S16384x429 .f32 :=
  concatenate S16384x429 1 [⟨S16384x416, E⟩, ⟨S16384x13, X⟩] concatenates_S16384x416_S16384x13_S16384x429_d1

/-- the layers, -/
def layer1 (Z : FVec Ideal S16384x429 .f32) (W : FVec Ideal S429x256 .f32) (b : FVec Ideal S256 .f32) : FVec Ideal S16384x256 .f32 :=
  maximumf (addf (Host.dotGeneral dot_S16384x429_S429x256_S16384x256_1_0_0_1_n_n none Z W)
    (broadcastInDim S16384x256 ![0, 1] bcast_S1x256_S16384x256_0_1 (broadcastInDim S1x256 ![1] bcast_S256_S1x256_1 b)))
    (broadcastInDim S16384x256 ![] bcast_S_S16384x256 (constant S_ .f32 0x00000000#32))
def layer2 (Z : FVec Ideal S16384x256 .f32) (W : FVec Ideal S256x128 .f32) (b : FVec Ideal S128 .f32) : FVec Ideal S16384x128 .f32 :=
  maximumf (addf (Host.dotGeneral dot_S16384x256_S256x128_S16384x128_1_0_0_1_n_n none Z W)
    (broadcastInDim S16384x128 ![0, 1] bcast_S1x128_S16384x128_0_1 (broadcastInDim S1x128 ![1] bcast_S128_S1x128_1 b)))
    (broadcastInDim S16384x128 ![] bcast_S_S16384x128 (constant S_ .f32 0x00000000#32))
def layer3 (Z : FVec Ideal S16384x128 .f32) (W : FVec Ideal S128x1 .f32) (b : FVec Ideal S1 .f32) : FVec Ideal S16384x1 .f32 :=
  addf (Host.dotGeneral dot_S16384x128_S128x1_S16384x1_1_0_0_1_n_n none Z W)
    (broadcastInDim S16384x1 ![0, 1] bcast_S1x1_S16384x1_0_1 (broadcastInDim S1x1 ![1] bcast_S1_S1x1_1 b))

/-- and the whole. -/
def result (a0 : IVec S16384x26 32) (a1 : FVec Ideal S16384x13 .f32) (a2 : FVec Ideal S26x100000x16 .f32) (a3 : FVec Ideal S429x256 .f32)
    (a4 : FVec Ideal S256 .f32) (a5 : FVec Ideal S256x128 .f32) (a6 : FVec Ideal S128 .f32) (a7 : FVec Ideal S128x1 .f32) (a8 : FVec Ideal S1 .f32) :
    FVec Ideal S16384x1 .f32 :=
  layer3 (layer2 (layer1 (input (embs a0 a2) a1) a3 a4) a5 a6) a7 a8

theorem input_left (E : FVec Ideal S16384x416 .f32) (X : FVec Ideal S16384x13 .f32) (i : Fin 16384) (k : Fin 416) :
    input E X (ix2 i (Fin.castAdd 13 k)) = E (ix2 i k) :=
  concatenate_pair_apply_left (t := S16384x429) (1 : Fin 2) E X concatenates_S16384x416_S16384x13_S16384x429_d1 _ rfl (ix2 i k) fun b => by
    match b with
    | ⟨0, _⟩ => rfl
    | ⟨1, _⟩ => rfl

theorem input_right (E : FVec Ideal S16384x416 .f32) (X : FVec Ideal S16384x13 .f32) (i : Fin 16384) (k : Fin 13) :
    input E X (ix2 i (Fin.natAdd 416 k)) = X (ix2 i k) :=
  concatenate_pair_apply_right (t := S16384x429) (1 : Fin 2) E X concatenates_S16384x416_S16384x13_S16384x429_d1 _ rfl rfl (ix2 i k)
    (fun b hb => by
      match b with
      | ⟨0, _⟩ => rfl
      | ⟨1, _⟩ => exact absurd rfl hb)
    (Nat.add_comm k.val 416)

theorem result_apply (a0 : IVec S16384x26 32) (a1 : FVec Ideal S16384x13 .f32) (a2 : FVec Ideal S26x100000x16 .f32) (a3 : FVec Ideal S429x256 .f32)
    (a4 : FVec Ideal S256 .f32) (a5 : FVec Ideal S256x128 .f32) (a6 : FVec Ideal S128 .f32) (a7 : FVec Ideal S128x1 .f32) (a8 : FVec Ideal S1 .f32)
    (i : Fin 16384) (c : Fin 1) :
    result a0 a1 a2 a3 a4 a5 a6 a7 a8 (ix2 i c)
      = tail (fun j => dotRow (fun k : Fin 416 => embs a0 a2 (ix2 i k)) (fun k => a3 (ix2 (Fin.castAdd 13 k) j))
            + dotRow (fun k : Fin 13 => a1 (ix2 i k)) (fun k => a3 (ix2 (Fin.natAdd 416 k) j)))
          (fun j => a4 (ix1 j)) (fun j q => a5 (ix2 j q)) (fun q => a6 (ix1 q)) (fun q => a7 (ix2 q c)) (a8 (ix1 c)) := by
  have h1 (j : Fin 256) : layer1 (input (embs a0 a2) a1) a3 a4 (ix2 i j)
      = unit (dotRow (fun k : Fin 416 => embs a0 a2 (ix2 i k)) (fun k => a3 (ix2 (Fin.castAdd 13 k) j))
            + dotRow (fun k : Fin 13 => a1 (ix2 i k)) (fun k => a3 (ix2 (Fin.natAdd 416 k) j))) (a4 (ix1 j)) := by
    unfold layer1
    rw [hostUnit_apply, hostSpread_apply, hostProduct_apply dot_S16384x429_S429x256_S16384x256_1_0_0_1_n_n rfl, dotRow_split]
    simp only [input_left, input_right]
  have h2 (Z : FVec Ideal S16384x256 .f32) (q : Fin 128) : layer2 Z a5 a6 (ix2 i q)
      = unit (dotRow (fun j => Z (ix2 i j)) fun j => a5 (ix2 j q)) (a6 (ix1 q)) := by
    unfold layer2
    rw [hostUnit_apply, hostSpread_apply, hostProduct_apply dot_S16384x256_S256x128_S16384x128_1_0_0_1_n_n rfl]
  have h3 (Z : FVec Ideal S16384x128 .f32) : layer3 Z a7 a8 (ix2 i c) = dotRow (fun q => Z (ix2 i q)) (fun q => a7 (ix2 q c)) + a8 (ix1 c) := by
    unfold layer3
    rw [ValueIdx.addf_apply, hostSpread_apply, hostProduct_apply dot_S16384x128_S128x1_S16384x1_1_0_0_1_n_n rfl]
  unfold result tail
  rw [h3]
  simp only [h2, h1]

/-- The reference's run, at its result. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h => h) (Cert.ReferenceIdeal.Value.run m ρ)

end Cert.Proof.Ref

end
-- ==== Proof.DenseRow.lean ====
/-
  What the dense kernel's body computes at a row of its block: the network's sums over that row.
-/
module

public import proofs.«01_k».proof.Proof.AtIdeal.TcOut
public import proofs.«01_k».proof.Proof.Layers

@[expose] public section

noncomputable section

namespace Cert.Proof.OnKernelIdeal

open Cert.KernelIdeal Cert.KernelIdeal.Gen
open Idealize.ShloMosaic
open Idealize.ShloMosaic.TcCoe
open Idealize.ShloMosaic.ValueIdx (ix1 ix2 eq_ix1 eq_ix2)
open Cert.Proof.Layers (dotRow unit tail product_apply spread_apply unit_apply)

theorem pay_apply (x0 : FVec Ideal S1024x416 .f32) (x2 : FVec Ideal S416x256 .f32) (x1 : FVec Ideal S1024x13 .f32) (x3 : FVec Ideal S13x256 .f32)
    (x4 : FVec Ideal S1x256 .f32) (x5 : FVec Ideal S256x128 .f32) (x6 : FVec Ideal S1x128 .f32) (x7 : FVec Ideal S128x1 .f32)
    (x8 : FVec Ideal S1x1 .f32) (r : Fin 1024) (c : Fin 1) :
    k1_pay1 (F := Ideal) x0 x2 x1 x3 x4 x5 x6 x7 x8 (ix2 r c)
      = tail (fun j => dotRow (fun k : Fin 416 => x0 (ix2 r k)) (fun k => x2 (ix2 k j))
            + dotRow (fun k : Fin 13 => x1 (ix2 r k)) (fun k => x3 (ix2 k j)))
          (fun j => x4 (ix2 0 j)) (fun j q => x5 (ix2 j q)) (fun q => x6 (ix2 0 q)) (fun q => x7 (ix2 q c)) (x8 (ix2 0 c)) := by
  have h1 (j : Fin 256) := unit_apply (addf (matmul dot_S1024x416_S416x256_S1024x256_1_0_0_1_n_n none x0 x2 (constant S1024x256 .f32 0x00000000#32))
      (matmul dot_S1024x13_S13x256_S1024x256_1_0_0_1_n_n none x1 x3 (constant S1024x256 .f32 0x00000000#32)))
      (broadcastTo S1024x256 x4 broadcasts_S1x256_S1024x256) r j
  have h2 (Z : FVec Ideal S1024x256 .f32) (q : Fin 128) := unit_apply (matmul dot_S1024x256_S256x128_S1024x128_1_0_0_1_n_n none Z x5 (constant S1024x128 .f32 0x00000000#32))
      (broadcastTo S1024x128 x6 broadcasts_S1x128_S1024x128) r q
  simp only [ValueIdx.addf_apply, spread_apply, product_apply dot_S1024x416_S416x256_S1024x256_1_0_0_1_n_n rfl,
    product_apply dot_S1024x13_S13x256_S1024x256_1_0_0_1_n_n rfl] at h1
  simp only [spread_apply, product_apply dot_S1024x256_S256x128_S1024x128_1_0_0_1_n_n rfl] at h2
  unfold k1_pay1 tail
  simp only [shapeCast_self]
  rw [ValueIdx.addf_apply, spread_apply, product_apply dot_S1024x128_S128x1_S1024x1_1_0_0_1_n_n rfl]
  simp only [h2, h1]

/-- The same, from what the nine arrays hold where that row reads them. -/
theorem pay_of {x0 : FVec Ideal S1024x416 .f32} {x2 : FVec Ideal S416x256 .f32} {x1 : FVec Ideal S1024x13 .f32} {x3 : FVec Ideal S13x256 .f32}
    {x4 : FVec Ideal S1x256 .f32} {x5 : FVec Ideal S256x128 .f32} {x6 : FVec Ideal S1x128 .f32} {x7 : FVec Ideal S128x1 .f32}
    {x8 : FVec Ideal S1x1 .f32} {r : Fin 1024} {c : Fin 1} {y0 : Fin 416 → EReal} {y2 : Fin 416 → Fin 256 → EReal} {y1 : Fin 13 → EReal}
    {y3 : Fin 13 → Fin 256 → EReal} {y4 : Fin 256 → EReal} {y5 : Fin 256 → Fin 128 → EReal} {y6 y7 : Fin 128 → EReal} {y8 : EReal}
    (h0 : ∀ k, x0 (ix2 r k) = y0 k) (h2 : ∀ k j, x2 (ix2 k j) = y2 k j) (h1 : ∀ k, x1 (ix2 r k) = y1 k) (h3 : ∀ k j, x3 (ix2 k j) = y3 k j)
    (h4 : ∀ j, x4 (ix2 0 j) = y4 j) (h5 : ∀ j q, x5 (ix2 j q) = y5 j q) (h6 : ∀ q, x6 (ix2 0 q) = y6 q) (h7 : ∀ q, x7 (ix2 q c) = y7 q)
    (h8 : x8 (ix2 0 c) = y8) :
    k1_pay1 (F := Ideal) x0 x2 x1 x3 x4 x5 x6 x7 x8 (ix2 r c)
      = tail (fun j => dotRow y0 (fun k => y2 k j) + dotRow y1 (fun k => y3 k j)) y4 y5 y6 y7 y8 := by
  rw [pay_apply]
  simp only [h0, h1, h2, h3, h4, h5, h6, h7, h8]

end Cert.Proof.OnKernelIdeal

end
-- ==== Proof.DenseBlocks.lean ====
/-
  What the dense kernel's body finds in its windows: 1024 rows of the two batch inputs, by grid point, and every weight and bias whole.
-/
module

public import proofs.«01_k».proof.Proof.AtIdeal.TcOut

@[expose] public section

noncomputable section

namespace Cert.Proof.OnKernelIdeal

open Cert.KernelIdeal Cert.KernelIdeal.Gen
open Idealize.ShloMosaic
open Idealize.ShloMosaic.TcCoe
open Idealize.ShloMosaic.Pipeline (Dat Cfg Window)
open Idealize.ShloMosaic.ValueIdx (ix1 ix2 eq_ix1 eq_ix2)

variable {F : FTy → Type} [FloatOps F]
variable (V : (c : Dev nD) → (b : Ref sig .tc) → Buf (Elt F) ((c : Thread nD τ).loc b))

theorem index0 : ∀ t : Fin grid1.N, win1_0.index t 0 = t.val ∧ win1_0.index t 1 = 0 := by decide
theorem index1 : ∀ t : Fin grid1.N, win1_1.index t 0 = t.val ∧ win1_1.index t 1 = 0 := by decide
theorem index2 : ∀ (t : Fin grid1.N) a, win1_2.index t a = 0 := by decide
theorem index3 : ∀ (t : Fin grid1.N) a, win1_3.index t a = 0 := by decide
theorem index4 : ∀ (t : Fin grid1.N) a, win1_4.index t a = 0 := by decide
theorem index5 : ∀ (t : Fin grid1.N) a, win1_5.index t a = 0 := by decide
theorem index6 : ∀ (t : Fin grid1.N) a, win1_6.index t a = 0 := by decide
theorem index7 : ∀ (t : Fin grid1.N) a, win1_7.index t a = 0 := by decide
theorem index8 : ∀ (t : Fin grid1.N) a, win1_8.index t a = 0 := by decide

/-- The row of the array that a block's row is. -/
def rowOf (t : Fin cfg1.N) (r : Fin 1024) : Fin 16384 := ⟨t.val * 1024 + r.val, by
  have h := t.isLt
  have hN : cfg1.N = 16 := N_1
  omega⟩

theorem iblk0 (c : Dev nD) (t : Fin cfg1.N) (r : Fin 1024) (k : Fin 416) :
    (iblk V c 0 t : S1024x416.Idx → Elt F .f32) (ix2 r k) = (V c main_v9 : S16384x416.Idx → Elt F .f32) (ix2 (rowOf t r) k) := by
  refine congrArg (V c main_v9 : S16384x416.Idx → Elt F .f32) (funext fun a => Fin.ext ?_)
  match a with
  | ⟨0, _⟩ => exact (win1_0.rect_emb_val t (ix2 r k) 0).trans (by rw [(index0 t).1]; rfl)
  | ⟨1, _⟩ => exact (win1_0.rect_emb_val t (ix2 r k) 1).trans (by rw [(index0 t).2, Nat.zero_mul, Nat.zero_add]; rfl)

theorem iblk1 (c : Dev nD) (t : Fin cfg1.N) (r : Fin 1024) (k : Fin 13) :
    (iblk V c 1 t : S1024x13.Idx → Elt F .f32) (ix2 r k) = (V c main_arg1 : S16384x13.Idx → Elt F .f32) (ix2 (rowOf t r) k) := by
  refine congrArg (V c main_arg1 : S16384x13.Idx → Elt F .f32) (funext fun a => Fin.ext ?_)
  match a with
  | ⟨0, _⟩ => exact (win1_1.rect_emb_val t (ix2 r k) 0).trans (by rw [(index1 t).1]; rfl)
  | ⟨1, _⟩ => exact (win1_1.rect_emb_val t (ix2 r k) 1).trans (by rw [(index1 t).2, Nat.zero_mul, Nat.zero_add]; rfl)

theorem iblk2 (c : Dev nD) (t : Fin cfg1.N) : (iblk V c 2 t : S416x256.Idx → Elt F .f32) = V c main_v10 :=
  funext fun y => congrArg (V c main_v10 : S416x256.Idx → Elt F .f32) <| funext fun a => Fin.ext <|
    (win1_2.rect_emb_val t y a).trans (by rw [index2 t a, Nat.zero_mul, Nat.zero_add])

theorem iblk3 (c : Dev nD) (t : Fin cfg1.N) : (iblk V c 3 t : S13x256.Idx → Elt F .f32) = V c main_v11 :=
  funext fun y => congrArg (V c main_v11 : S13x256.Idx → Elt F .f32) <| funext fun a => Fin.ext <|
    (win1_3.rect_emb_val t y a).trans (by rw [index3 t a, Nat.zero_mul, Nat.zero_add])

theorem iblk4 (c : Dev nD) (t : Fin cfg1.N) : (iblk V c 4 t : S1x256.Idx → Elt F .f32) = V c main_v12 :=
  funext fun y => congrArg (V c main_v12 : S1x256.Idx → Elt F .f32) <| funext fun a => Fin.ext <|
    (win1_4.rect_emb_val t y a).trans (by rw [index4 t a, Nat.zero_mul, Nat.zero_add])

theorem iblk5 (c : Dev nD) (t : Fin cfg1.N) : (iblk V c 5 t : S256x128.Idx → Elt F .f32) = V c main_arg5 :=
  funext fun y => congrArg (V c main_arg5 : S256x128.Idx → Elt F .f32) <| funext fun a => Fin.ext <|
    (win1_5.rect_emb_val t y a).trans (by rw [index5 t a, Nat.zero_mul, Nat.zero_add])

theorem iblk6 (c : Dev nD) (t : Fin cfg1.N) : (iblk V c 6 t : S1x128.Idx → Elt F .f32) = V c main_v13 :=
  funext fun y => congrArg (V c main_v13 : S1x128.Idx → Elt F .f32) <| funext fun a => Fin.ext <|
    (win1_6.rect_emb_val t y a).trans (by rw [index6 t a, Nat.zero_mul, Nat.zero_add])

theorem iblk7 (c : Dev nD) (t : Fin cfg1.N) : (iblk V c 7 t : S128x1.Idx → Elt F .f32) = V c main_arg7 :=
  funext fun y => congrArg (V c main_arg7 : S128x1.Idx → Elt F .f32) <| funext fun a => Fin.ext <|
    (win1_7.rect_emb_val t y a).trans (by rw [index7 t a, Nat.zero_mul, Nat.zero_add])

theorem iblk8 (c : Dev nD) (t : Fin cfg1.N) : (iblk V c 8 t : S1x1.Idx → Elt F .f32) = V c main_v14 :=
  funext fun y => congrArg (V c main_v14 : S1x1.Idx → Elt F .f32) <| funext fun a => Fin.ext <|
    (win1_8.rect_emb_val t y a).trans (by rw [index8 t a, Nat.zero_mul, Nat.zero_add])

theorem rowOf_ptOf (i : Fin 16384) (c : Fin 1) :
    rowOf (ptOf (ix2 i c)) ⟨i.val % 1024, Nat.mod_lt _ (by decide)⟩ = i :=
  Fin.ext (show i.val / 1024 * 1024 + i.val % 1024 = i.val by omega)

end Cert.Proof.OnKernelIdeal

end
-- ==== Proof.HostArrays.lean ====
/-
  The arrays the dense kernel reads, from the program's arguments: the gathered rows laid side by side, the first weight in its two parts, and
  each bias as a row.
-/
module

public import proofs.«01_k».proof.Proof.AtIdeal.ListRows
public import Idealize.ShloMosaic.Lib.ValueLayout

@[expose] public section

noncomputable section

namespace Cert.Proof.OnKernelIdeal

open Cert.KernelIdeal Cert.KernelIdeal.Gen
open Idealize.ShloMosaic
open Idealize.ShloMosaic.TcCoe
open Idealize.ShloMosaic.ValueIdx (ix1 ix2 ix3 eq_ix1 eq_ix2)

variable {F : FTy → Type} [FloatOps F]
variable (m : (ℓ : Loc nD τ sig) → Buf (Elt F) ℓ) (d : Dev nD)

theorem v9_eq : (V3 m d (dr main_v9) : S16384x416.Idx → Elt F .f32)
    = shapeCast S16384x416 (gathered (tabOf m d) (lstOf m d)) shapeCasts_S425984x16_S16384x416 := by
  rw [← V2_out]
  unfold V3 opsB
  after_results_simp
  rfl

theorem v10_eq : (V3 m d (dr main_v10) : S416x256.Idx → Elt F .f32)
    = fun y => (m ((d : Thread nD τ).loc main_arg3) : S429x256.Idx → Elt F .f32) (ix2 (Fin.castAdd 13 (y 0)) (y 1)) := by
  rw [← V3_arg m d main_arg3 (by decide), V3_keep m d main_arg3 (by decide)]
  unfold V3 opsB
  after_results_simp
  funext y
  refine extractStridedSlice_apply _ _ _ _ _ fun a => ?_
  match a with
  | ⟨0, _⟩ => exact (Nat.zero_add _).symm
  | ⟨1, _⟩ => exact (Nat.zero_add _).symm

theorem v11_eq : (V3 m d (dr main_v11) : S13x256.Idx → Elt F .f32)
    = fun y => (m ((d : Thread nD τ).loc main_arg3) : S429x256.Idx → Elt F .f32) (ix2 (Fin.natAdd 416 (y 0)) (y 1)) := by
  rw [← V3_arg m d main_arg3 (by decide), V3_keep m d main_arg3 (by decide)]
  unfold V3 opsB
  after_results_simp
  funext y
  refine extractStridedSlice_apply _ _ _ _ _ fun a => ?_
  match a with
  | ⟨0, _⟩ => rfl
  | ⟨1, _⟩ => exact (Nat.zero_add _).symm

/-- A bias as a row: -/
theorem v12_eq (j : Fin 256) : (V3 m d (dr main_v12) : S1x256.Idx → Elt F .f32) (ix2 0 j)
    = (m ((d : Thread nD τ).loc main_arg4) : S256.Idx → Elt F .f32) (ix1 j) := by
  rw [← V3_arg m d main_arg4 (by decide), V3_keep m d main_arg4 (by decide)]
  unfold V3 opsB
  after_results_simp
  exact ValueIdx.shapeCast_a_1a_apply _ _ _ _

theorem v13_eq (j : Fin 128) : (V3 m d (dr main_v13) : S1x128.Idx → Elt F .f32) (ix2 0 j)
    = (m ((d : Thread nD τ).loc main_arg6) : S128.Idx → Elt F .f32) (ix1 j) := by
  rw [← V3_arg m d main_arg6 (by decide), V3_keep m d main_arg6 (by decide)]
  unfold V3 opsB
  after_results_simp
  exact ValueIdx.shapeCast_a_1a_apply _ _ _ _

theorem v14_eq (j : Fin 1) : (V3 m d (dr main_v14) : S1x1.Idx → Elt F .f32) (ix2 0 j)
    = (m ((d : Thread nD τ).loc main_arg8) : S1.Idx → Elt F .f32) (ix1 j) := by
  rw [← V3_arg m d main_arg8 (by decide), V3_keep m d main_arg8 (by decide)]
  unfold V3 opsB
  after_results_simp
  exact ValueIdx.shapeCast_a_1a_apply _ _ _ _

/-- Entry `f·16 + q` of an example's row is entry `q` of the row its word picks from table `f`. -/
theorem v9_apply (i : Fin 16384) (k : Fin 416) (f : Fin 26) (q : Fin 16) (hk : k.val = f.val * 16 + q.val) (w : Fin 100000)
    (hw : (wordsOf m d (ix2 i f)).toNat = w.val) :
    (V3 m d (dr main_v9) : S16384x416.Idx → Elt F .f32) (ix2 i k) = tablesOf m d (ix3 f w q) := by
  have hex : placeEx ⟨i.val * 26 + f.val, by omega⟩ = i := Fin.ext (show (i.val * 26 + f.val) / 26 = i.val by omega)
  have hfd : placeFd ⟨i.val * 26 + f.val, by omega⟩ = f := Fin.ext (show (i.val * 26 + f.val) % 26 = f.val by omega)
  have h := gathered_apply m d ⟨i.val * 26 + f.val, by omega⟩ q w (by rw [hex, hfd]; exact hw)
  rw [hfd] at h
  rw [v9_eq, ← h]
  refine shapeCast_apply _ _ _ _ ?_
  rw [Shape.rowMajor_val_two, Shape.rowMajor_val_two]
  show (i.val * 26 + f.val) * 16 + q.val = i.val * 416 + k.val
  omega

end Cert.Proof.OnKernelIdeal

end
-- ==== Proof.Agree.lean ====
/-
  The kernel's result is the reference's, given the same arguments with every index inside its table.
-/
module

public import proofs.«01_k».proof.Proof.RefValue
public import proofs.«01_k».proof.Proof.DenseRow
public import proofs.«01_k».proof.Proof.DenseBlocks
public import proofs.«01_k».proof.Proof.HostArrays

@[expose] public section

noncomputable section

namespace Cert.Proof.OnKernelIdeal

open Cert.KernelIdeal Cert.KernelIdeal.Gen
open Idealize.ShloMosaic
open Idealize.ShloMosaic.TcCoe
open Idealize.ShloMosaic.ValueIdx (ix1 ix2 ix3 eq_ix1 eq_ix2)
open Cert.Proof.Layers (dotRow unit tail)

variable (m : (ℓ : Loc nD τ sig) → Buf (Elt Ideal) ℓ)

/-- The kernel's result at an example. -/
theorem out_apply (d : Dev nD) (i : Fin 16384) (c : Fin 1) :
    (V4 m d (dr main_v15) : S16384x1.Idx → EReal) (ix2 i c)
      = tail (fun j => dotRow (fun k : Fin 416 => (V3 m d (dr main_v9) : S16384x416.Idx → EReal) (ix2 i k))
              (fun k => (m ((d : Thread nD τ).loc main_arg3) : S429x256.Idx → EReal) (ix2 (Fin.castAdd 13 k) j))
            + dotRow (fun k : Fin 13 => (m ((d : Thread nD τ).loc main_arg1) : S16384x13.Idx → EReal) (ix2 i k))
              (fun k => (m ((d : Thread nD τ).loc main_arg3) : S429x256.Idx → EReal) (ix2 (Fin.natAdd 416 k) j)))
          (fun j => (m ((d : Thread nD τ).loc main_arg4) : S256.Idx → EReal) (ix1 j))
          (fun j q => (m ((d : Thread nD τ).loc main_arg5) : S256x128.Idx → EReal) (ix2 j q))
          (fun q => (m ((d : Thread nD τ).loc main_arg6) : S128.Idx → EReal) (ix1 q))
          (fun q => (m ((d : Thread nD τ).loc main_arg7) : S128x1.Idx → EReal) (ix2 q c))
          ((m ((d : Thread nD τ).loc main_arg8) : S1.Idx → EReal) (ix1 c)) := by
  rw [V4_out]
  refine pay_of (r := ⟨i.val % 1024, Nat.mod_lt _ (by decide)⟩) (c := c) (fun k => ?_) (fun k j => ?_) (fun k => ?_) (fun k j => ?_) (fun j => ?_)
    (fun j q => ?_) (fun q => ?_) (fun q => ?_) ?_
  · exact (iblk0 _ d _ _ k).trans (by rw [rowOf_ptOf])
  · exact (congrFun (iblk2 _ d _) (ix2 k j)).trans (congrFun (v10_eq m d) (ix2 k j))
  · exact (iblk1 _ d _ _ k).trans (by rw [rowOf_ptOf, V3_arg m d main_arg1 (by decide)])
  · exact (congrFun (iblk3 _ d _) (ix2 k j)).trans (congrFun (v11_eq m d) (ix2 k j))
  · exact (congrFun (iblk4 _ d _) (ix2 0 j)).trans (v12_eq m d j)
  · exact (congrFun (iblk5 _ d _) (ix2 j q)).trans (congrFun (V3_arg m d main_arg5 (by decide)) (ix2 j q))
  · exact (congrFun (iblk6 _ d _) (ix2 0 q)).trans (v13_eq m d q)
  · exact (congrFun (iblk7 _ d _) (ix2 q c)).trans (congrFun (V3_arg m d main_arg7 (by decide)) (ix2 q c))
  · exact (congrFun (iblk8 _ d _) (ix2 0 c)).trans (v14_eq m d c)

/-- The two results. -/
theorem out_eq (d : Dev nD) (hw : ∀ i, (wordsOf m d i).toNat < 100000) :
    (V4 m d (dr main_v15) : S16384x1.Idx → EReal)
      = Ref.result (m ((d : Thread nD τ).loc main_arg0)) (m ((d : Thread nD τ).loc main_arg1)) (m ((d : Thread nD τ).loc main_arg2))
          (m ((d : Thread nD τ).loc main_arg3)) (m ((d : Thread nD τ).loc main_arg4)) (m ((d : Thread nD τ).loc main_arg5))
          (m ((d : Thread nD τ).loc main_arg6)) (m ((d : Thread nD τ).loc main_arg7)) (m ((d : Thread nD τ).loc main_arg8)) := by
  funext x
  obtain ⟨i, c, rfl⟩ : ∃ i c, x = ix2 i c := ⟨x 0, x 1, eq_ix2 x⟩
  have he (k : Fin 416) : (V3 m d (dr main_v9) : S16384x416.Idx → EReal) (ix2 i k)
      = Ref.embs (m ((d : Thread nD τ).loc main_arg0)) (m ((d : Thread nD τ).loc main_arg2)) (ix2 i k) := by
    have hk : k.val = (⟨k.val / 16, by omega⟩ : Fin 26).val * 16 + (⟨k.val % 16, by omega⟩ : Fin 16).val :=
      show k.val = k.val / 16 * 16 + k.val % 16 by omega
    exact (v9_apply m d i k _ _ hk ⟨_, hw (ix2 i ⟨k.val / 16, by omega⟩)⟩ rfl).trans
      (Ref.embs_apply _ hw i k _ _ hk ⟨_, hw (ix2 i ⟨k.val / 16, by omega⟩)⟩ rfl).symm
  rw [out_apply, Ref.result_apply]
  simp only [he]

end Cert.Proof.OnKernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Vocab
public import proofs.«01_k».proof.Proof.Ends
public import proofs.«01_k».proof.Proof.AtIdeal.Ends
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m g hp =>
  (θ_run Cert.Kernel.defs _ _).mono (fun _ h => ⟨fun c => (h.1 c).2, h.2⟩)
    (OnKernel.run_ends m g fun d => Vocab.index_lt _ _ _ _ _ _ _ _ _ (hp d))

theorem frame_ideal : Cert.quiescent_KernelIdeal := fun m g hp =>
  (θ_run Cert.KernelIdeal.defs _ _).mono (fun _ h => ⟨fun c => (h.1 c).2, h.2⟩)
    (OnKernelIdeal.run_ends m g fun d => Vocab.index_lt _ _ _ _ _ _ _ _ _ (hp d))

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_reference_in_vocab : Cert.quiescent_ReferenceIdeal_pre_in_vocab := fun m g _ => frame_reference m g True.intro

/-- Both programs end with the same result and with their arguments as they were. -/
theorem agree : Cert.algebraic_KernelIdeal_ReferenceIdeal := fun m g m' g' hp hm => by
  have hw : ∀ d i, (OnKernelIdeal.wordsOf m d i).toNat < 100000 := fun d => Vocab.index_lt _ _ _ _ _ _ _ _ _ (hp d)
  refine ⟨fun c => OnKernelIdeal.V4 m c (OnKernelIdeal.dr Cert.KernelIdeal.main_v15),
    (θ_run Cert.KernelIdeal.defs _ _).mono (fun r h => h.1) (OnKernelIdeal.run_ends m g hw),
    (θ_run Cert.ReferenceIdeal.defs _ _).mono (fun r h c => ⟨(h c).1.trans ?_, (h c).2⟩) (Ref.run_result m' g')⟩
  obtain ⟨e0, e1, e2, e3, e4, e5, e6, e7, e8⟩ := hm c
  rw [e0, e1, e2, e3, e4, e5, e6, e7, e8]
  exact (OnKernelIdeal.out_eq m c (hw c)).symm

theorem claim : Cert.Claim := ⟨Cert.Kernel.Gen.facts, Cert.KernelIdeal.Gen.facts, Cert.ReferenceIdeal.Gen.facts, Cert.Pre_in_vocab.Gen.facts,
  frame_kernel, frame_ideal, frame_reference, frame_reference_in_vocab, trivial, agree⟩

end Cert.Proof

end
